-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6144x1x4096 : Shape := ⟨3, ![6144, 1, 4096]⟩
abbrev S14336x2048 : Shape := ⟨2, ![14336, 2048]⟩
abbrev S14336x16 : Shape := ⟨2, ![14336, 16]⟩
abbrev S14336x16x12 : Shape := ⟨3, ![14336, 16, 12]⟩
abbrev S6144x4096 : Shape := ⟨2, ![6144, 4096]⟩
abbrev S16x14336 : Shape := ⟨2, ![16, 14336]⟩
abbrev S12x16x14336 : Shape := ⟨3, ![12, 16, 14336]⟩
abbrev S6144x14336 : Shape := ⟨2, ![6144, 14336]⟩
abbrev S1024x4096 : Shape := ⟨2, ![1024, 4096]⟩
abbrev S1024x2048 : Shape := ⟨2, ![1024, 2048]⟩
abbrev S16x1024 : Shape := ⟨2, ![16, 1024]⟩
abbrev S12x16x1024 : Shape := ⟨3, ![12, 16, 1024]⟩
abbrev S1024x1024 : Shape := ⟨2, ![1024, 1024]⟩
abbrev S1024x128 : Shape := ⟨2, ![1024, 128]⟩
abbrev S12x16x128 : Shape := ⟨3, ![12, 16, 128]⟩
abbrev S16x128 : Shape := ⟨2, ![16, 128]⟩
abbrev S4x16x128 : Shape := ⟨3, ![4, 16, 128]⟩
abbrev S1x16x128 : Shape := ⟨3, ![1, 16, 128]⟩
abbrev S128x128 : Shape := ⟨2, ![128, 128]⟩
abbrev S32x128 : Shape := ⟨2, ![32, 128]⟩
abbrev S8x128 : Shape := ⟨2, ![8, 128]⟩
abbrev S8x128x1 : Shape := ⟨3, ![8, 128, 1]⟩
abbrev S32x128x1 : Shape := ⟨3, ![32, 128, 1]⟩

abbrev nBuf : Space → Nat
  | .hbm => 10
  | .vmem => 15
  | .smem => 0
  | _ => 0

abbrev bufTy : (tb : Table) → Fin (tcTables nBuf tb) → BufTy
  | .hbm, ⟨0, _⟩ => ⟨S6144x1x4096, .bf16⟩
  | .hbm, ⟨1, _⟩ => ⟨S14336x2048, .i8⟩
  | .hbm, ⟨2, _⟩ => ⟨S14336x16, .i16⟩
  | .hbm, ⟨3, _⟩ => ⟨S14336x16, .i16⟩
  | .hbm, ⟨4, _⟩ => ⟨S14336x16x12, .i8⟩
  | .hbm, ⟨5, _⟩ => ⟨S6144x4096, .bf16⟩
  | .hbm, ⟨6, _⟩ => ⟨S16x14336, .i16⟩
  | .hbm, ⟨7, _⟩ => ⟨S16x14336, .i16⟩
  | .hbm, ⟨8, _⟩ => ⟨S12x16x14336, .i8⟩
  | .hbm, ⟨9, _⟩ => ⟨S6144x14336, .bf16⟩
  | .local _ .vmem, ⟨0, _⟩ => ⟨S1024x4096, .bf16⟩
  | .local _ .vmem, ⟨1, _⟩ => ⟨S1024x4096, .bf16⟩
  | .local _ .vmem, ⟨2, _⟩ => ⟨S1024x2048, .i8⟩
  | .local _ .vmem, ⟨3, _⟩ => ⟨S1024x2048, .i8⟩
  | .local _ .vmem, ⟨4, _⟩ => ⟨S16x1024, .i16⟩
  | .local _ .vmem, ⟨5, _⟩ => ⟨S16x1024, .i16⟩
  | .local _ .vmem, ⟨6, _⟩ => ⟨S16x1024, .i16⟩
  | .local _ .vmem, ⟨7, _⟩ => ⟨S16x1024, .i16⟩
  | .local _ .vmem, ⟨8, _⟩ => ⟨S12x16x1024, .i8⟩
  | .local _ .vmem, ⟨9, _⟩ => ⟨S12x16x1024, .i8⟩
  | .local _ .vmem, ⟨10, _⟩ => ⟨S1024x1024, .bf16⟩
  | .local _ .vmem, ⟨11, _⟩ => ⟨S1024x1024, .bf16⟩
  | .local _ .vmem, ⟨12, _⟩ => ⟨S1024x4096, .bf16⟩
  | .local _ .vmem, ⟨13, _⟩ => ⟨S1024x128, .f32⟩
  | .local _ .vmem, ⟨14, _⟩ => ⟨S1024x128, .f32⟩
  | _, _ => ⟨S6144x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![14, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_579 : BitVec 32 := 0#32
  let c32_i32 : BitVec 32 := 32#32
  let v1969 : BitVec 32 := Scalar.addi c0_i32_579 c32_i32
  let c1_i32 : BitVec 32 := 1#32
  ⟨c0_i32_579, v1969, c1_i32⟩
def k0_mult1 (k0_t1 : Fin k0_t1_loop.trips) : BitVec 32 :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  v1972
def k0_off1 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v1974 : Index := Scalar.indexCast v1973
  let c0_584 : Index := 0#32
  ![v1974.toNat, 0]
def k0_off2 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v1978 : Index := Scalar.indexCast v1973
  let c0_586 : Index := 0#32
  ![v1978.toNat, 0]
def k0_off3 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v2241 : Index := Scalar.indexCast v1973
  let c0_660 : Index := 0#32
  ![v2241.toNat, 0]
def k0_off4 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v2245 : Index := Scalar.indexCast v1973
  let c128_661 : Index := 128#32
  ![v2245.toNat, 128]
def k0_off5 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v2249 : Index := Scalar.indexCast v1973
  let c128_662 : Index := 128#32
  ![v2249.toNat, 128]
def k0_off6 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v2512 : Index := Scalar.indexCast v1973
  let c256_741 : Index := 256#32
  ![v2512.toNat, 256]
def k0_off7 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v2516 : Index := Scalar.indexCast v1973
  let c384_742 : Index := 384#32
  ![v2516.toNat, 384]
def k0_off8 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v2520 : Index := Scalar.indexCast v1973
  let c256_743 : Index := 256#32
  ![v2520.toNat, 256]
def k0_off9 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v2783 : Index := Scalar.indexCast v1973
  let c512_822 : Index := 512#32
  ![v2783.toNat, 512]
def k0_off10 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v2787 : Index := Scalar.indexCast v1973
  let c640_823 : Index := 640#32
  ![v2787.toNat, 640]
def k0_off11 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v2791 : Index := Scalar.indexCast v1973
  let c384_824 : Index := 384#32
  ![v2791.toNat, 384]
def k0_off12 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v3054 : Index := Scalar.indexCast v1973
  let c768_902 : Index := 768#32
  ![v3054.toNat, 768]
def k0_off13 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v3058 : Index := Scalar.indexCast v1973
  let c896_903 : Index := 896#32
  ![v3058.toNat, 896]
def k0_off14 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v3062 : Index := Scalar.indexCast v1973
  let c512_904 : Index := 512#32
  ![v3062.toNat, 512]
def k0_off15 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v3325 : Index := Scalar.indexCast v1973
  let c1024 : Index := 1024#32
  ![v3325.toNat, 1024]
def k0_off16 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v3329 : Index := Scalar.indexCast v1973
  let c1152 : Index := 1152#32
  ![v3329.toNat, 1152]
def k0_off17 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v3333 : Index := Scalar.indexCast v1973
  let c640_983 : Index := 640#32
  ![v3333.toNat, 640]
def k0_off18 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v3596 : Index := Scalar.indexCast v1973
  let c1280 : Index := 1280#32
  ![v3596.toNat, 1280]
def k0_off19 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v3600 : Index := Scalar.indexCast v1973
  let c1408 : Index := 1408#32
  ![v3600.toNat, 1408]
def k0_off20 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v3604 : Index := Scalar.indexCast v1973
  let c768_1061 : Index := 768#32
  ![v3604.toNat, 768]
def k0_off21 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v3867 : Index := Scalar.indexCast v1973
  let c1536 : Index := 1536#32
  ![v3867.toNat, 1536]
def k0_off22 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v3871 : Index := Scalar.indexCast v1973
  let c1664 : Index := 1664#32
  ![v3871.toNat, 1664]
def k0_off23 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v3875 : Index := Scalar.indexCast v1973
  let c896_1140 : Index := 896#32
  ![v3875.toNat, 896]
def k0_off24 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v4138 : Index := Scalar.indexCast v1973
  let c1792 : Index := 1792#32
  ![v4138.toNat, 1792]
def k0_off25 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v4142 : Index := Scalar.indexCast v1973
  let c1920 : Index := 1920#32
  ![v4142.toNat, 1920]
def k0_off26 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v4146 : Index := Scalar.indexCast v1973
  let c1024_1218 : Index := 1024#32
  ![v4146.toNat, 1024]
def k0_off27 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v4409 : Index := Scalar.indexCast v1973
  let c2048 : Index := 2048#32
  ![v4409.toNat, 2048]
def k0_off28 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v4413 : Index := Scalar.indexCast v1973
  let c2176 : Index := 2176#32
  ![v4413.toNat, 2176]
def k0_off29 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v4417 : Index := Scalar.indexCast v1973
  let c1152_1296 : Index := 1152#32
  ![v4417.toNat, 1152]
def k0_off30 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v4680 : Index := Scalar.indexCast v1973
  let c2304 : Index := 2304#32
  ![v4680.toNat, 2304]
def k0_off31 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v4684 : Index := Scalar.indexCast v1973
  let c2432 : Index := 2432#32
  ![v4684.toNat, 2432]
def k0_off32 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v4688 : Index := Scalar.indexCast v1973
  let c1280_1374 : Index := 1280#32
  ![v4688.toNat, 1280]
def k0_off33 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v4951 : Index := Scalar.indexCast v1973
  let c2560 : Index := 2560#32
  ![v4951.toNat, 2560]
def k0_off34 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v4955 : Index := Scalar.indexCast v1973
  let c2688 : Index := 2688#32
  ![v4955.toNat, 2688]
def k0_off35 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v4959 : Index := Scalar.indexCast v1973
  let c1408_1453 : Index := 1408#32
  ![v4959.toNat, 1408]
def k0_off36 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v5222 : Index := Scalar.indexCast v1973
  let c2816 : Index := 2816#32
  ![v5222.toNat, 2816]
def k0_off37 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v5226 : Index := Scalar.indexCast v1973
  let c2944 : Index := 2944#32
  ![v5226.toNat, 2944]
def k0_off38 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v5230 : Index := Scalar.indexCast v1973
  let c1536_1531 : Index := 1536#32
  ![v5230.toNat, 1536]
def k0_off39 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v5493 : Index := Scalar.indexCast v1973
  let c3072 : Index := 3072#32
  ![v5493.toNat, 3072]
def k0_off40 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v5497 : Index := Scalar.indexCast v1973
  let c3200 : Index := 3200#32
  ![v5497.toNat, 3200]
def k0_off41 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v5501 : Index := Scalar.indexCast v1973
  let c1664_1609 : Index := 1664#32
  ![v5501.toNat, 1664]
def k0_off42 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v5764 : Index := Scalar.indexCast v1973
  let c3328 : Index := 3328#32
  ![v5764.toNat, 3328]
def k0_off43 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v5768 : Index := Scalar.indexCast v1973
  let c3456 : Index := 3456#32
  ![v5768.toNat, 3456]
def k0_off44 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v5772 : Index := Scalar.indexCast v1973
  let c1792_1688 : Index := 1792#32
  ![v5772.toNat, 1792]
def k0_off45 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v6035 : Index := Scalar.indexCast v1973
  let c3584 : Index := 3584#32
  ![v6035.toNat, 3584]
def k0_off46 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v6039 : Index := Scalar.indexCast v1973
  let c3712 : Index := 3712#32
  ![v6039.toNat, 3712]
def k0_off47 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v6043 : Index := Scalar.indexCast v1973
  let c1920_1766 : Index := 1920#32
  ![v6043.toNat, 1920]
def k0_off48 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v6306 : Index := Scalar.indexCast v1973
  let c3840 : Index := 3840#32
  ![v6306.toNat, 3840]
def k0_off49 (k0_t1 : Fin k0_t1_loop.trips) : Fin 2 → Nat :=
  let c0_i32_582 : BitVec 32 := 0#32
  let c0_i32_579 : BitVec 32 := 0#32
  let c1_i32 : BitVec 32 := 1#32
  let arg11 : BitVec 32 := Scf.iv c0_i32_579 c1_i32 k0_t1
  let c1_i32_581 : BitVec 32 := 1#32
  let v1970 : BitVec 32 := Scalar.muli arg11 c1_i32_581
  let v1971 : BitVec 32 := Scalar.addi c0_i32_582 v1970
  let c32_i32_583 : BitVec 32 := 32#32
  let v1972 : BitVec 32 := Scalar.muli v1971 c32_i32_583
  let v1973 : BitVec 32 := v1972
  let v6310 : Index := Scalar.indexCast v1973
  let c3968 : Index := 3968#32
  ![v6310.toNat, 3968]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x1024 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S12x16x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S6144x1x4096 : Shape := ⟨3, ![6144, 1, 4096]⟩
abbrev S14336x2048 : Shape := ⟨2, ![14336, 2048]⟩
abbrev S14336x16 : Shape := ⟨2, ![14336, 16]⟩
abbrev S14336x16x12 : Shape := ⟨3, ![14336, 16, 12]⟩
abbrev S14336x16x4 : Shape := ⟨3, ![14336, 16, 4]⟩
abbrev S_ : Shape := ⟨0, ![]⟩
abbrev S14336x16x8 : Shape := ⟨3, ![14336, 16, 8]⟩
abbrev S14336x16x1 : Shape := ⟨3, ![14336, 16, 1]⟩
abbrev S14336x64x2 : Shape := ⟨3, ![14336, 64, 2]⟩
abbrev S14336x64x32 : Shape := ⟨3, ![14336, 64, 32]⟩
abbrev S14336x64x1 : Shape := ⟨3, ![14336, 64, 1]⟩
abbrev S6144x1x64x2x32 : Shape := ⟨5, ![6144, 1, 64, 2, 32]⟩
abbrev S6144x1x64x1x32 : Shape := ⟨5, ![6144, 1, 64, 1, 32]⟩
abbrev S6144x1x64x32 : Shape := ⟨4, ![6144, 1, 64, 32]⟩
abbrev S6144x1x14336 : Shape := ⟨3, ![6144, 1, 14336]⟩
abbrev S6144x14336 : Shape := ⟨2, ![6144, 14336]⟩

abbrev nBuf : Space → Nat
  | .hbm => 192
  | .vmem => 0
  | .smem => 0
  | _ => 0

abbrev hbmTy0_0 (i : Nat) : BufTy := match i % 128 with
  | 0 => ⟨S6144x1x4096, .bf16⟩
  | 1 => ⟨S14336x2048, .i8⟩
  | 2 => ⟨S14336x16, .i16⟩
  | 3 => ⟨S14336x16, .i16⟩
  | 4 => ⟨S14336x16x12, .i8⟩
  | 5 => ⟨S14336x2048, .i32⟩
  | 6 => ⟨S14336x16x12, .i32⟩
  | 7 => ⟨S14336x16x4, .i32⟩
  | 8 => ⟨S_, .i32⟩
  | 9 => ⟨S14336x16x4, .i32⟩
  | 10 => ⟨S14336x16x4, .i32⟩
  | 11 => ⟨S14336x16x4, .i32⟩
  | 12 => ⟨S_, .i32⟩
  | 13 => ⟨S14336x16x4, .i32⟩
  | 14 => ⟨S14336x16x4, .i32⟩
  | 15 => ⟨S14336x16x4, .i32⟩
  | 16 => ⟨S_, .i32⟩
  | 17 => ⟨S14336x16x4, .i32⟩
  | 18 => ⟨S14336x16x4, .i32⟩
  | 19 => ⟨S14336x16x4, .i32⟩
  | 20 => ⟨S_, .i32⟩
  | 21 => ⟨S14336x16x4, .i32⟩
  | 22 => ⟨S14336x16x4, .i32⟩
  | 23 => ⟨S_, .i32⟩
  | 24 => ⟨S14336x16x4, .i32⟩
  | 25 => ⟨S14336x16x4, .i32⟩
  | 26 => ⟨S14336x16x4, .i32⟩
  | 27 => ⟨S14336x16x4, .i32⟩
  | 28 => ⟨S_, .i32⟩
  | 29 => ⟨S14336x16x4, .i32⟩
  | 30 => ⟨S14336x16x4, .i32⟩
  | 31 => ⟨S14336x16x4, .i32⟩
  | 32 => ⟨S_, .i32⟩
  | 33 => ⟨S14336x16x4, .i32⟩
  | 34 => ⟨S14336x16x4, .i32⟩
  | 35 => ⟨S_, .i32⟩
  | 36 => ⟨S14336x16x4, .i32⟩
  | 37 => ⟨S14336x16x4, .i32⟩
  | 38 => ⟨S14336x16x4, .i32⟩
  | 39 => ⟨S14336x16x8, .i32⟩
  | 40 => ⟨S14336x16x8, .i32⟩
  | 41 => ⟨S14336x16, .i32⟩
  | 42 => ⟨S_, .i32⟩
  | 43 => ⟨S14336x16, .i32⟩
  | 44 => ⟨S14336x16, .i32⟩
  | 45 => ⟨S_, .i32⟩
  | 46 => ⟨S14336x16, .i32⟩
  | 47 => ⟨S14336x16, .i32⟩
  | 48 => ⟨S_, .i32⟩
  | 49 => ⟨S14336x16, .i32⟩
  | 50 => ⟨S14336x16, .i32⟩
  | 51 => ⟨S14336x16, .f32⟩
  | 52 => ⟨S_, .f32⟩
  | 53 => ⟨S14336x16, .f32⟩
  | 54 => ⟨S14336x16, .f32⟩
  | 55 => ⟨S_, .i32⟩
  | 56 => ⟨S14336x16, .i32⟩
  | 57 => ⟨S14336x16, .i32⟩
  | 58 => ⟨S14336x16, .f32⟩
  | 59 => ⟨S_, .i32⟩
  | 60 => ⟨S14336x16, .i32⟩
  | 61 => ⟨S14336x16, .i32⟩
  | 62 => ⟨S14336x16, .f32⟩
  | 63 => ⟨S14336x16, .f32⟩
  | 64 => ⟨S_, .f32⟩
  | 65 => ⟨S14336x16, .f32⟩
  | 66 => ⟨S14336x16, .f32⟩
  | 67 => ⟨S_, .i32⟩
  | 68 => ⟨S14336x16, .i32⟩
  | 69 => ⟨S14336x16, .i1⟩
  | 70 => ⟨S_, .f32⟩
  | 71 => ⟨S_, .f32⟩
  | 72 => ⟨S14336x16, .f32⟩
  | 73 => ⟨S14336x16, .f32⟩
  | 74 => ⟨S14336x16, .f32⟩
  | 75 => ⟨S_, .i32⟩
  | 76 => ⟨S14336x16, .i32⟩
  | 77 => ⟨S14336x16, .i1⟩
  | 78 => ⟨S_, .i32⟩
  | 79 => ⟨S14336x16, .i32⟩
  | 80 => ⟨S14336x16, .i1⟩
  | 81 => ⟨S14336x16, .f32⟩
  | 82 => ⟨S14336x16, .f32⟩
  | 83 => ⟨S14336x16, .f32⟩
  | 84 => ⟨S_, .i32⟩
  | 85 => ⟨S14336x16, .i32⟩
  | 86 => ⟨S14336x16, .i32⟩
  | 87 => ⟨S_, .i32⟩
  | 88 => ⟨S14336x16, .i32⟩
  | 89 => ⟨S14336x16, .i32⟩
  | 90 => ⟨S_, .i32⟩
  | 91 => ⟨S14336x16, .i32⟩
  | 92 => ⟨S14336x16, .i1⟩
  | 93 => ⟨S14336x16, .f32⟩
  | 94 => ⟨S14336x16, .f32⟩
  | 95 => ⟨S14336x16x1, .f32⟩
  | 96 => ⟨S14336x16x8, .f32⟩
  | 97 => ⟨S14336x16x8, .f32⟩
  | 98 => ⟨S14336x16x8, .f32⟩
  | 99 => ⟨S14336x16, .i32⟩
  | 100 => ⟨S_, .i32⟩
  | 101 => ⟨S14336x16, .i32⟩
  | 102 => ⟨S14336x16, .i32⟩
  | 103 => ⟨S_, .i32⟩
  | 104 => ⟨S14336x16, .i32⟩
  | 105 => ⟨S14336x16, .i32⟩
  | 106 => ⟨S_, .i32⟩
  | 107 => ⟨S14336x16, .i32⟩
  | 108 => ⟨S14336x16, .i32⟩
  | 109 => ⟨S14336x16, .f32⟩
  | 110 => ⟨S_, .f32⟩
  | 111 => ⟨S14336x16, .f32⟩
  | 112 => ⟨S14336x16, .f32⟩
  | 113 => ⟨S_, .i32⟩
  | 114 => ⟨S14336x16, .i32⟩
  | 115 => ⟨S14336x16, .i32⟩
  | 116 => ⟨S14336x16, .f32⟩
  | 117 => ⟨S_, .i32⟩
  | 118 => ⟨S14336x16, .i32⟩
  | 119 => ⟨S14336x16, .i32⟩
  | 120 => ⟨S14336x16, .f32⟩
  | 121 => ⟨S14336x16, .f32⟩
  | 122 => ⟨S_, .f32⟩
  | 123 => ⟨S14336x16, .f32⟩
  | 124 => ⟨S14336x16, .f32⟩
  | 125 => ⟨S_, .i32⟩
  | 126 => ⟨S14336x16, .i32⟩
  | 127 => ⟨S14336x16, .i1⟩
  | _ => ⟨S6144x1x4096, .bf16⟩

abbrev hbmTy0_1 (i : Nat) : BufTy := match i % 128 with
  | 0 => ⟨S_, .f32⟩
  | 1 => ⟨S_, .f32⟩
  | 2 => ⟨S14336x16, .f32⟩
  | 3 => ⟨S14336x16, .f32⟩
  | 4 => ⟨S14336x16, .f32⟩
  | 5 => ⟨S_, .i32⟩
  | 6 => ⟨S14336x16, .i32⟩
  | 7 => ⟨S14336x16, .i1⟩
  | 8 => ⟨S_, .i32⟩
  | 9 => ⟨S14336x16, .i32⟩
  | 10 => ⟨S14336x16, .i1⟩
  | 11 => ⟨S14336x16, .f32⟩
  | 12 => ⟨S14336x16, .f32⟩
  | 13 => ⟨S14336x16, .f32⟩
  | 14 => ⟨S_, .i32⟩
  | 15 => ⟨S14336x16, .i32⟩
  | 16 => ⟨S14336x16, .i32⟩
  | 17 => ⟨S_, .i32⟩
  | 18 => ⟨S14336x16, .i32⟩
  | 19 => ⟨S14336x16, .i32⟩
  | 20 => ⟨S_, .i32⟩
  | 21 => ⟨S14336x16, .i32⟩
  | 22 => ⟨S14336x16, .i1⟩
  | 23 => ⟨S14336x16, .f32⟩
  | 24 => ⟨S14336x16, .f32⟩
  | 25 => ⟨S14336x16x1, .f32⟩
  | 26 => ⟨S14336x16x8, .f32⟩
  | 27 => ⟨S14336x16x8, .f32⟩
  | 28 => ⟨S14336x16x8, .f32⟩
  | 29 => ⟨S14336x64x2, .f32⟩
  | 30 => ⟨S14336x64x2, .f32⟩
  | 31 => ⟨S14336x64x32, .i32⟩
  | 32 => ⟨S_, .i32⟩
  | 33 => ⟨S14336x64x32, .i32⟩
  | 34 => ⟨S14336x64x32, .i32⟩
  | 35 => ⟨S14336x64x32, .f32⟩
  | 36 => ⟨S_, .i32⟩
  | 37 => ⟨S14336x64x32, .i32⟩
  | 38 => ⟨S14336x64x32, .i32⟩
  | 39 => ⟨S14336x64x32, .f32⟩
  | 40 => ⟨S14336x64x1, .f32⟩
  | 41 => ⟨S14336x64x32, .f32⟩
  | 42 => ⟨S14336x64x32, .f32⟩
  | 43 => ⟨S14336x64x1, .f32⟩
  | 44 => ⟨S14336x64x32, .f32⟩
  | 45 => ⟨S14336x64x32, .f32⟩
  | 46 => ⟨S14336x64x32, .bf16⟩
  | 47 => ⟨S14336x64x1, .f32⟩
  | 48 => ⟨S14336x64x32, .f32⟩
  | 49 => ⟨S14336x64x32, .f32⟩
  | 50 => ⟨S14336x64x1, .f32⟩
  | 51 => ⟨S14336x64x32, .f32⟩
  | 52 => ⟨S14336x64x32, .f32⟩
  | 53 => ⟨S14336x64x32, .bf16⟩
  | 54 => ⟨S6144x1x64x2x32, .bf16⟩
  | 55 => ⟨S6144x1x64x1x32, .bf16⟩
  | 56 => ⟨S6144x1x64x32, .bf16⟩
  | 57 => ⟨S6144x1x14336, .f32⟩
  | 58 => ⟨S6144x1x64x1x32, .bf16⟩
  | 59 => ⟨S6144x1x64x32, .bf16⟩
  | 60 => ⟨S6144x1x14336, .f32⟩
  | 61 => ⟨S6144x1x14336, .f32⟩
  | 62 => ⟨S6144x1x14336, .bf16⟩
  | 63 => ⟨S6144x14336, .bf16⟩
  | _ => ⟨S6144x1x4096, .bf16⟩

abbrev hbmTy (i : Nat) : BufTy := match i / 128 with
  | 0 => hbmTy0_0 i
  | 1 => hbmTy0_1 i
  | _ => ⟨S6144x1x4096, .bf16⟩

abbrev bufTy : (tb : Table) → Fin (tcTables nBuf tb) → BufTy
  | .hbm, ⟨i, _⟩ => hbmTy i
  | _, _ => ⟨S6144x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_v30 : Ref sig .tc := ⟨.hbm, 44, rfl⟩
abbrev main_c_8 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_v36 : Ref sig .tc := ⟨.hbm, 53, rfl⟩
abbrev main_v37 : Ref sig .tc := ⟨.hbm, 54, rfl⟩
abbrev main_c_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_c_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_cst_15 : Ref sig .tc := ⟨.hbm, 71, rfl⟩
abbrev main_call0_v0 : Ref sig .tc := ⟨.hbm, 72, rfl⟩
abbrev main_call0_v1 : Ref sig .tc := ⟨.hbm, 73, rfl⟩
abbrev main_v49 : Ref sig .tc := ⟨.hbm, 74, rfl⟩
abbrev main_c_16 : Ref sig .tc := ⟨.hbm, 75, rfl⟩
abbrev main_v50 : Ref sig .tc := ⟨.hbm, 76, rfl⟩
abbrev main_v51 : Ref sig .tc := ⟨.hbm, 77, rfl⟩
abbrev main_c_17 : Ref sig .tc := ⟨.hbm, 78, rfl⟩
abbrev main_v52 : Ref sig .tc := ⟨.hbm, 79, rfl⟩
abbrev main_v53 : Ref sig .tc := ⟨.hbm, 80, rfl⟩
abbrev main_call1_v0 : Ref sig .tc := ⟨.hbm, 81, rfl⟩
abbrev main_v54 : Ref sig .tc := ⟨.hbm, 82, rfl⟩
abbrev main_v55 : Ref sig .tc := ⟨.hbm, 83, rfl⟩
abbrev main_c_18 : Ref sig .tc := ⟨.hbm, 84, rfl⟩
abbrev main_v56 : Ref sig .tc := ⟨.hbm, 85, rfl⟩
abbrev main_v57 : Ref sig .tc := ⟨.hbm, 86, rfl⟩
abbrev main_c_19 : Ref sig .tc := ⟨.hbm, 87, rfl⟩
abbrev main_v58 : Ref sig .tc := ⟨.hbm, 88, rfl⟩
abbrev main_v59 : Ref sig .tc := ⟨.hbm, 89, rfl⟩
abbrev main_c_20 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_21 : Ref sig .tc := ⟨.hbm, 100, rfl⟩
abbrev main_v69 : Ref sig .tc := ⟨.hbm, 101, rfl⟩
abbrev main_v70 : Ref sig .tc := ⟨.hbm, 102, rfl⟩
abbrev main_c_22 : Ref sig .tc := ⟨.hbm, 103, rfl⟩
abbrev main_v71 : Ref sig .tc := ⟨.hbm, 104, rfl⟩
abbrev main_v72 : Ref sig .tc := ⟨.hbm, 105, rfl⟩
abbrev main_c_23 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_24 : Ref sig .tc := ⟨.hbm, 110, rfl⟩
abbrev main_v76 : Ref sig .tc := ⟨.hbm, 111, rfl⟩
abbrev main_v77 : Ref sig .tc := ⟨.hbm, 112, rfl⟩
abbrev main_c_25 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_26 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_27 : Ref sig .tc := ⟨.hbm, 122, rfl⟩
abbrev main_v85 : Ref sig .tc := ⟨.hbm, 123, rfl⟩
abbrev main_v86 : Ref sig .tc := ⟨.hbm, 124, rfl⟩
abbrev main_c_28 : Ref sig .tc := ⟨.hbm, 125, rfl⟩
abbrev main_v87 : Ref sig .tc := ⟨.hbm, 126, rfl⟩
abbrev main_v88 : Ref sig .tc := ⟨.hbm, 127, rfl⟩
abbrev main_cst_29 : Ref sig .tc := ⟨.hbm, 128, rfl⟩
abbrev main_cst_30 : Ref sig .tc := ⟨.hbm, 129, rfl⟩
abbrev main_call4_v0 : Ref sig .tc := ⟨.hbm, 130, rfl⟩
abbrev main_call4_v1 : Ref sig .tc := ⟨.hbm, 131, rfl⟩
abbrev main_v89 : Ref sig .tc := ⟨.hbm, 132, rfl⟩
abbrev main_c_31 : Ref sig .tc := ⟨.hbm, 133, rfl⟩
abbrev main_v90 : Ref sig .tc := ⟨.hbm, 134, rfl⟩
abbrev main_v91 : Ref sig .tc := ⟨.hbm, 135, rfl⟩
abbrev main_c_32 : Ref sig .tc := ⟨.hbm, 136, rfl⟩
abbrev main_v92 : Ref sig .tc := ⟨.hbm, 137, rfl⟩
abbrev main_v93 : Ref sig .tc := ⟨.hbm, 138, rfl⟩
abbrev main_call5_v0 : Ref sig .tc := ⟨.hbm, 139, rfl⟩
abbrev main_v94 : Ref sig .tc := ⟨.hbm, 140, rfl⟩
abbrev main_v95 : Ref sig .tc := ⟨.hbm, 141, rfl⟩
abbrev main_c_33 : Ref sig .tc := ⟨.hbm, 142, rfl⟩
abbrev main_v96 : Ref sig .tc := ⟨.hbm, 143, rfl⟩
abbrev main_v97 : Ref sig .tc := ⟨.hbm, 144, rfl⟩
abbrev main_c_34 : Ref sig .tc := ⟨.hbm, 145, rfl⟩
abbrev main_v98 : Ref sig .tc := ⟨.hbm, 146, rfl⟩
abbrev main_v99 : Ref sig .tc := ⟨.hbm, 147, rfl⟩
abbrev main_c_35 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_36 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_c_37 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩

abbrev nD : Nat := 1
abbrev τ : Topo := Topo.v7x

variable {F : FTy → Type} [FloatOps F]
-- ==== Proof.Tile.lean ====
/-
What one superblock of 256 columns computes: the kernel's operations, named.

A "tile" is 32 rows by 128 columns of the dequantized weight matrix.  Its operations are printed once here, with
the half (`h64`, `h4`) and the superblock (`sb`) as parameters; every store of the dequantizing loop is an instance.
-/
module

public import proofs.«01_k».proof.Proof.Gen.KernelIdeal.Loops

@[expose] public section

set_option maxRecDepth 16384

noncomputable section

namespace Cert.KernelIdeal.Q4

open Cert.KernelIdeal Cert.KernelIdeal.Gen Idealize.ShloMosaic Idealize.ShloMosaic.TcCoe Idealize.SL.Sem

variable {F : FTy → Type} [FloatOps F]

/-- Floor division of a vector of integers by a scalar, as printed: the truncating quotient, one less where the
signs differ and the remainder is not zero. -/
def floorDiv {S : Shape} (v : IVec S 32) (d : BitVec 32) : IVec S 32 :=
  select
    (andi
      (cmpi .ne
        (subi (extui 32 (cmpi .sgt v (broadcast S 0#32)) natLt_1_32) (extui 32 (cmpi .slt v (broadcast S 0#32)) natLt_1_32))
        (broadcast S (Scalar.subi (Scalar.extui (Scalar.cmpi .sgt d 0#32)) (Scalar.extui (Scalar.cmpi .slt d 0#32)))))
      (cmpi .ne (remsi v (broadcast S d)) (broadcast S 0#32)))
    (subi (divsi v (broadcast S d)) (broadcast S 1#32))
    (divsi v (broadcast S d))

/-- The divisor of a remainder as printed: one in place of zero. -/
def safeDivisor (d : BitVec 32) : BitVec 32 := Scalar.select (Scalar.cmpi .eq d 0#32) 1#32 d

/-- The remainder of the floor division of a vector of 8 by 128 integers by a scalar, as printed. -/
def floorMod (v : IVec S8x128 32) (d : BitVec 32) : IVec S8x128 32 :=
  select
    (andi
      (xori (cmpi .slt (remsi v (broadcast S8x128 (safeDivisor d))) (broadcast S8x128 0#32))
        (broadcastTo S8x128 (broadcast S8x128 (Scalar.cmpi .slt (safeDivisor d) 0#32)) broadcasts_S8x128_S8x128))
      (cmpi .ne (remsi v (broadcast S8x128 (safeDivisor d))) (broadcast S8x128 0#32)))
    (addi (remsi v (broadcast S8x128 (safeDivisor d))) (broadcast S8x128 (safeDivisor d)))
    (remsi v (broadcast S8x128 (safeDivisor d)))

/-- A lane index taken as an array index: a negative one counts from the end. -/
def wrapLane {S : Shape} (v : IVec S 32) : IVec S 32 :=
  select (cmpi .slt v (broadcast S 0#32)) (addi v (broadcast S 128#32)) v

/-- The lane number, over the packed words of a tile. -/
def lane8 : IVec S8x128 32 := iota .tc S8x128 32 [1] iota_S8x128_d1_w32

/-- The lane number, over a tile. -/
def lane32 : IVec S32x128 32 := iota .tc S32x128 32 [1] iota_S32x128_d1_w32

/-- Four times the parity of the lane's group of 32: which nibble of the byte the lane takes. -/
def nibbleShift : IVec S8x128 32 := muli (floorMod (floorDiv lane8 32#32) 2#32) (broadcast S8x128 4#32)

/-- The byte column that a lane of the half starting at byte `h64` reads. -/
def byteLane (h64 : BitVec 32) : IVec S8x128 32 :=
  wrapLane (addi (addi (muli (floorDiv lane8 64#32) (broadcast S8x128 32#32)) (floorMod lane8 32#32)) (broadcast S8x128 h64))

/-- The column of the scale table that a lane reads: sub-block `lane / 32 + h4` of superblock `sb`. -/
def scaleLane (h4 sb : BitVec 32) : IVec S32x128 32 :=
  wrapLane (addi (muli (addi (floorDiv lane32 32#32) (broadcast S32x128 h4)) (broadcast S32x128 16#32)) (broadcast S32x128 sb))

/-- The 4-bit quantities of a tile, as numbers: four rows of bytes in a word, the lane's byte and its nibble. -/
def nibbles (h64 : BitVec 32) (v : Vec F S32x128 .i8) : FVec F S32x128 .f32 :=
  sitofp .f32 (extsi 32 (bitcast S32x128 8
    (andi (shrui (dynamicGather 1 (bitcast S8x128 32 (v : IVec S32x128 8) bitcasts_S32x128_w8_S8x128_w32)
        (shapeCast S8x128 (shapeCast S8x128x1 (byteLane h64) shapeCasts_S8x128_S8x128x1) shapeCasts_S8x128x1_S8x128))
      nibbleShift) (broadcast S8x128 252645135#32))
    bitcasts_S8x128_w32_S32x128_w8) natLt_8_32)

/-- The entry of a 128-column table row for each lane of a tile. -/
def tableLane (h4 sb : BitVec 32) (s : Vec F S32x128 .f32) : FVec F S32x128 .f32 :=
  dynamicGather 1 (s : FVec F S32x128 .f32)
    (shapeCast S32x128 (shapeCast S32x128x1 (scaleLane h4 sb) shapeCasts_S32x128_S32x128x1) shapeCasts_S32x128x1_S32x128)

/-- One tile of the weight matrix: quantity times scale minus offset. -/
def tile (h64 h4 sb : BitVec 32) (v : Vec F S32x128 .i8) (s o : Vec F S32x128 .f32) : FVec F S32x128 .bf16 :=
  shapeCast S32x128
    (truncf .bf16 (subf (mulf (nibbles h64 v) (tableLane h4 sb s)) (tableLane h4 sb o)) bitsLt_bf16_f32)
    shapeCasts_S32x128_S32x128

end Cert.KernelIdeal.Q4
-- ==== Proof.Pieces.lean ====
/-
What one trip of the dequantizing loop stores: thirty-two tiles, two for each superblock.
-/
module

public import proofs.«01_k».proof.Proof.Tile
public import Idealize.ShloMosaic.Lib.Pipeline.Value

@[expose] public section

set_option maxRecDepth 65536

noncomputable section

namespace Cert.KernelIdeal.Q4

open Cert.KernelIdeal Cert.KernelIdeal.Gen Idealize.ShloMosaic Idealize.ShloMosaic.TcCoe Idealize.SL.Sem

variable {F : FTy → Type} [FloatOps F]

/-- A stored tile: its place in the weight matrix, and its values. -/
abbrev tilePiece (h64 h4 sb : BitVec 32) (off : Fin 2 → Nat) (inb : ∀ a, off a + S32x128.size a ≤ S1024x4096.size a)
    (offq : Fin 2 → Nat) (inbq : ∀ a, offq a + S32x128.size a ≤ S1024x2048.size a)
    (Q : Vec F S1024x2048 .i8) (s o : Vec F S32x128 .f32) : View.Piece (Elt F) S1024x4096 .bf16 :=
  ⟨Rect.unit (s := S1024x4096) off S32x128.size inb,
    tile h64 h4 sb (View.ld Q (Rect.unit (s := S1024x2048) offq S32x128.size inbq)) s o⟩

/-- The tiles that trip `k` stores, the last first. -/
def tripTiles (i : grid0.Coords) (k0_h1 : k0_cond1 i = 1#1) (k : Fin k0_t1_loop.trips)
    (Q : Vec F S1024x2048 .i8) (s o : Vec F S32x128 .f32) : List (View.Piece (Elt F) S1024x4096 .bf16) :=
  [ tilePiece 64#32 4#32 15#32 (k0_off49 k) (k0_off49_inb i k k0_h1) (k0_off47 k) (k0_off47_inb i k k0_h1) Q s o,
      tilePiece 0#32 0#32 15#32 (k0_off48 k) (k0_off48_inb i k k0_h1) (k0_off47 k) (k0_off47_inb i k k0_h1) Q s o,
      tilePiece 64#32 4#32 14#32 (k0_off46 k) (k0_off46_inb i k k0_h1) (k0_off44 k) (k0_off44_inb i k k0_h1) Q s o,
      tilePiece 0#32 0#32 14#32 (k0_off45 k) (k0_off45_inb i k k0_h1) (k0_off44 k) (k0_off44_inb i k k0_h1) Q s o,
      tilePiece 64#32 4#32 13#32 (k0_off43 k) (k0_off43_inb i k k0_h1) (k0_off41 k) (k0_off41_inb i k k0_h1) Q s o,
      tilePiece 0#32 0#32 13#32 (k0_off42 k) (k0_off42_inb i k k0_h1) (k0_off41 k) (k0_off41_inb i k k0_h1) Q s o,
      tilePiece 64#32 4#32 12#32 (k0_off40 k) (k0_off40_inb i k k0_h1) (k0_off38 k) (k0_off38_inb i k k0_h1) Q s o,
      tilePiece 0#32 0#32 12#32 (k0_off39 k) (k0_off39_inb i k k0_h1) (k0_off38 k) (k0_off38_inb i k k0_h1) Q s o,
      tilePiece 64#32 4#32 11#32 (k0_off37 k) (k0_off37_inb i k k0_h1) (k0_off35 k) (k0_off35_inb i k k0_h1) Q s o,
      tilePiece 0#32 0#32 11#32 (k0_off36 k) (k0_off36_inb i k k0_h1) (k0_off35 k) (k0_off35_inb i k k0_h1) Q s o,
      tilePiece 64#32 4#32 10#32 (k0_off34 k) (k0_off34_inb i k k0_h1) (k0_off32 k) (k0_off32_inb i k k0_h1) Q s o,
      tilePiece 0#32 0#32 10#32 (k0_off33 k) (k0_off33_inb i k k0_h1) (k0_off32 k) (k0_off32_inb i k k0_h1) Q s o,
      tilePiece 64#32 4#32 9#32 (k0_off31 k) (k0_off31_inb i k k0_h1) (k0_off29 k) (k0_off29_inb i k k0_h1) Q s o,
      tilePiece 0#32 0#32 9#32 (k0_off30 k) (k0_off30_inb i k k0_h1) (k0_off29 k) (k0_off29_inb i k k0_h1) Q s o,
      tilePiece 64#32 4#32 8#32 (k0_off28 k) (k0_off28_inb i k k0_h1) (k0_off26 k) (k0_off26_inb i k k0_h1) Q s o,
      tilePiece 0#32 0#32 8#32 (k0_off27 k) (k0_off27_inb i k k0_h1) (k0_off26 k) (k0_off26_inb i k k0_h1) Q s o,
      tilePiece 64#32 4#32 7#32 (k0_off25 k) (k0_off25_inb i k k0_h1) (k0_off23 k) (k0_off23_inb i k k0_h1) Q s o,
      tilePiece 0#32 0#32 7#32 (k0_off24 k) (k0_off24_inb i k k0_h1) (k0_off23 k) (k0_off23_inb i k k0_h1) Q s o,
      tilePiece 64#32 4#32 6#32 (k0_off22 k) (k0_off22_inb i k k0_h1) (k0_off20 k) (k0_off20_inb i k k0_h1) Q s o,
      tilePiece 0#32 0#32 6#32 (k0_off21 k) (k0_off21_inb i k k0_h1) (k0_off20 k) (k0_off20_inb i k k0_h1) Q s o,
      tilePiece 64#32 4#32 5#32 (k0_off19 k) (k0_off19_inb i k k0_h1) (k0_off17 k) (k0_off17_inb i k k0_h1) Q s o,
      tilePiece 0#32 0#32 5#32 (k0_off18 k) (k0_off18_inb i k k0_h1) (k0_off17 k) (k0_off17_inb i k k0_h1) Q s o,
      tilePiece 64#32 4#32 4#32 (k0_off16 k) (k0_off16_inb i k k0_h1) (k0_off14 k) (k0_off14_inb i k k0_h1) Q s o,
      tilePiece 0#32 0#32 4#32 (k0_off15 k) (k0_off15_inb i k k0_h1) (k0_off14 k) (k0_off14_inb i k k0_h1) Q s o,
      tilePiece 64#32 4#32 3#32 (k0_off13 k) (k0_off13_inb i k k0_h1) (k0_off11 k) (k0_off11_inb i k k0_h1) Q s o,
      tilePiece 0#32 0#32 3#32 (k0_off12 k) (k0_off12_inb i k k0_h1) (k0_off11 k) (k0_off11_inb i k k0_h1) Q s o,
      tilePiece 64#32 4#32 2#32 (k0_off10 k) (k0_off10_inb i k k0_h1) (k0_off8 k) (k0_off8_inb i k k0_h1) Q s o,
      tilePiece 0#32 0#32 2#32 (k0_off9 k) (k0_off9_inb i k k0_h1) (k0_off8 k) (k0_off8_inb i k k0_h1) Q s o,
      tilePiece 64#32 4#32 1#32 (k0_off7 k) (k0_off7_inb i k k0_h1) (k0_off5 k) (k0_off5_inb i k k0_h1) Q s o,
      tilePiece 0#32 0#32 1#32 (k0_off6 k) (k0_off6_inb i k k0_h1) (k0_off5 k) (k0_off5_inb i k k0_h1) Q s o,
      tilePiece 64#32 4#32 0#32 (k0_off4 k) (k0_off4_inb i k k0_h1) (k0_off2 k) (k0_off2_inb i k k0_h1) Q s o,
      tilePiece 0#32 0#32 0#32 (k0_off3 k) (k0_off3_inb i k k0_h1) (k0_off2 k) (k0_off2_inb i k k0_h1) Q s o ]

set_option maxHeartbeats 4000000 in
/-- One trip of the loop stores the tiles of `tripTiles`. -/
theorem tripL_eq (𝒱 : Variants) (c : Dev nD) (bd : Option 𝒱.V) (i : grid0.Coords) (arg2 : Memref sig .tc .vmem S1024x4096 .bf16) (harg2 : arg2.IsWhole) (arg3 : Memref sig .tc .vmem S1024x2048 .i8) (harg3 : arg3.IsWhole) (arg4 : Memref sig .tc .vmem S16x1024 .i16) (harg4 : arg4.IsWhole) (arg5 : Memref sig .tc .vmem S16x1024 .i16) (harg5 : arg5.IsWhole) (arg6 : Memref sig .tc .vmem S12x16x1024 .i8) (harg6 : arg6.IsWhole) (arg7 : Memref sig .tc .vmem S1024x1024 .bf16) (harg7 : arg7.IsWhole) (arg8 : Memref sig .tc .vmem S1024x4096 .bf16) (harg8 : arg8.IsWhole) (arg9 : Memref sig .tc .vmem S1024x128 .f32) (harg9 : arg9.IsWhole) (arg10 : Memref sig .tc .vmem S1024x128 .f32) (harg10 : arg10.IsWhole) (k0_h1 : k0_cond1 i = 1#1) (X_arg3 : BufTy.Contents (Elt F) arg3.view.ty) (X_arg9 : BufTy.Contents (Elt F) arg9.view.ty) (X_arg10 : BufTy.Contents (Elt F) arg10.view.ty) (k : Fin k0_t1_loop.trips) :
    tripL_k0_t1 (F := F) 𝒱 c bd i arg2 harg2 arg3 harg3 arg4 harg4 arg5 harg5 arg6 harg6 arg7 harg7 arg8 harg8 arg9 harg9 arg10 harg10 k0_h1 X_arg3 X_arg9 X_arg10 k
      = tripTiles i k0_h1 k (arg3.view.read (Elt F) X_arg3)
          (View.ld (arg9.view.read (Elt F) X_arg9) (Rect.unit (s := S1024x128) (k0_off1 k) S32x128.size (k0_off1_inb i k k0_h1)))
          (View.ld (arg10.view.read (Elt F) X_arg10) (Rect.unit (s := S1024x128) (k0_off1 k) S32x128.size (k0_off1_inb i k k0_h1))) := by
  unfold tripL_k0_t1 trip_k0_t1
  rfl

end Cert.KernelIdeal.Q4
-- ==== Proof.Table.lean ====
/-
What the kernel puts in its scale tables: its operations, named.

For 128 columns at a time the kernel decodes the sixteen float16 words of a row, unpacks the row's eight 6-bit codes for
each of sixteen superblocks, and stores their products: column `16 * c + sb` of a table is sub-block `c` of superblock `sb`.
-/
module

public import proofs.«01_k».proof.Proof.Gen.KernelIdeal.Frame
public import Idealize.ShloMosaic.Lib.Pipeline.Value

@[expose] public section

set_option maxRecDepth 65536

noncomputable section

namespace Cert.KernelIdeal.Q4

open Cert.KernelIdeal Cert.KernelIdeal.Gen Idealize.ShloMosaic Idealize.ShloMosaic.TcCoe Idealize.SL.Sem

variable {F : FTy → Type} [FloatOps F]

/-- The words of the low fifteen bits of a float16: its magnitude. -/
def halfMag (h : IVec S16x128 32) : IVec S16x128 32 := andi h (broadcast S16x128 32767#32)

/-- The exponent field of a float16's magnitude. -/
def halfExp (h : IVec S16x128 32) : IVec S16x128 32 := shrsi (halfMag h) (broadcast S16x128 10#32)

/-- The magnitude's value: the float32 of the same fields where it is normal, its fraction scaled where it is subnormal. -/
def halfAbs (h : IVec S16x128 32) : FVec F S16x128 .f32 :=
  select (cmpi .eq (halfExp h) (broadcast S16x128 0#32))
    (mulf (sitofp .f32 (halfMag h)) (broadcast S16x128 (Scalar.ofBits .f32 0x33800000#32)))
    (bitcastToFloat .f32
      (addi (shli (halfMag h) (broadcast S16x128 13#32))
        (select (cmpi .eq (halfExp h) (broadcast S16x128 31#32)) (broadcast S16x128 1879048192#32) (broadcast S16x128 939524096#32))))

/-- The value of a float16 word. -/
def halfVal (h : IVec S16x128 32) : FVec F S16x128 .f32 :=
  select (cmpi .ne (andi h (broadcast S16x128 32768#32)) (broadcast S16x128 0#32))
    (subf (broadcast S16x128 (Scalar.ofBits .f32 0x00000000#32)) (halfAbs h)) (halfAbs h)

/-- Row `n` of four. -/
def row4 (n : Nat) (v : IVec S4x16x128 32) (h : S4x16x128.Slices ![n, 0, 0] S1x16x128) : IVec S16x128 32 :=
  shapeCast S16x128 (extractStridedSlice S1x16x128 ![n, 0, 0] v h) shapeCasts_S1x16x128_S16x128

/-- A low sub-block's code: six bits of its own byte. -/
def codeLo (lo : IVec S16x128 32) : IVec S16x128 32 := andi lo (broadcast S16x128 63#32)

/-- A high sub-block's code: four bits of its own byte and two of the low sub-block's. -/
def codeHi (sh : BitVec 32) (hi lo : IVec S16x128 32) : IVec S16x128 32 :=
  ori (andi (shrsi hi (broadcast S16x128 sh)) (broadcast S16x128 15#32))
    (shli (shrsi lo (broadcast S16x128 6#32)) (broadcast S16x128 4#32))

/-- A code times the row's value. -/
def scaled (d : FVec F S16x128 .f32) (c : IVec S16x128 32) : FVec F S16x128 .f32 := mulf d (sitofp .f32 c)

/-- The values of the float16 words of 128 rows. -/
def rowVal (d : Vec F S16x128 .i16) : FVec F S16x128 .f32 :=
  halfVal (extsi 32 (shapeCast S16x128 (d : IVec S16x128 16) shapeCasts_S16x128_S16x128) natLt_16_32)

/-- 128 rows of a scale table. -/
def table (sh : BitVec 32) (lo hi : IVec S4x16x128 32) (d : Vec F S16x128 .i16) : FVec F S128x128 .f32 :=
  shapeCast S128x128
    (transpose S128x128 [1, 0]
      (concatenate S128x128 0
        [⟨S16x128, scaled (rowVal d) (codeLo (row4 0 lo slices_S4x16x128_o0_0_0_S1x16x128))⟩,
         ⟨S16x128, scaled (rowVal d) (codeLo (row4 1 lo slices_S4x16x128_o1_0_0_S1x16x128))⟩,
         ⟨S16x128, scaled (rowVal d) (codeLo (row4 2 lo slices_S4x16x128_o2_0_0_S1x16x128))⟩,
         ⟨S16x128, scaled (rowVal d) (codeLo (row4 3 lo slices_S4x16x128_o3_0_0_S1x16x128))⟩,
         ⟨S16x128, scaled (rowVal d) (codeHi sh (row4 0 hi slices_S4x16x128_o0_0_0_S1x16x128) (row4 0 lo slices_S4x16x128_o0_0_0_S1x16x128))⟩,
         ⟨S16x128, scaled (rowVal d) (codeHi sh (row4 1 hi slices_S4x16x128_o1_0_0_S1x16x128) (row4 1 lo slices_S4x16x128_o1_0_0_S1x16x128))⟩,
         ⟨S16x128, scaled (rowVal d) (codeHi sh (row4 2 hi slices_S4x16x128_o2_0_0_S1x16x128) (row4 2 lo slices_S4x16x128_o2_0_0_S1x16x128))⟩,
         ⟨S16x128, scaled (rowVal d) (codeHi sh (row4 3 hi slices_S4x16x128_o3_0_0_S1x16x128) (row4 3 lo slices_S4x16x128_o3_0_0_S1x16x128))⟩]
        concatenates_S16x128_S16x128_S16x128_S16x128_S16x128_S16x128_S16x128_S16x128_S128x128_d0)
      transposes_S128x128_p1_0_S128x128)
    shapeCasts_S128x128_S128x128

/-- The packed code bytes as unsigned integers. -/
def codeBytes (b : Vec F S12x16x128 .i8) : IVec S12x16x128 32 :=
  andi (extui 32 (shapeCast S12x16x128 (b : IVec S12x16x128 8) shapeCasts_S12x16x128_S12x16x128) natLt_8_32) (broadcast S12x16x128 255#32)

/-- 128 rows of the table of scales. -/
def scaleTable (b : Vec F S12x16x128 .i8) (d : Vec F S16x128 .i16) : FVec F S128x128 .f32 :=
  table 0#32 (extractStridedSlice S4x16x128 ![0, 0, 0] (codeBytes b) slices_S12x16x128_o0_0_0_S4x16x128)
    (extractStridedSlice S4x16x128 ![8, 0, 0] (codeBytes b) slices_S12x16x128_o8_0_0_S4x16x128) d

/-- 128 rows of the table of offsets. -/
def offsetTable (b : Vec F S12x16x128 .i8) (d : Vec F S16x128 .i16) : FVec F S128x128 .f32 :=
  table 4#32 (extractStridedSlice S4x16x128 ![4, 0, 0] (codeBytes b) slices_S12x16x128_o4_0_0_S4x16x128)
    (extractStridedSlice S4x16x128 ![8, 0, 0] (codeBytes b) slices_S12x16x128_o8_0_0_S4x16x128) d

end Cert.KernelIdeal.Q4
-- ==== Proof.TablePieces.lean ====
/-
What the kernel stores in its two scale tables, and what its weight scratch and result hold after a point that builds them.
-/
module

public import proofs.«01_k».proof.Proof.Pieces
public import proofs.«01_k».proof.Proof.Table

@[expose] public section

set_option maxRecDepth 65536

noncomputable section

namespace Cert.KernelIdeal.Q4

open Cert.KernelIdeal Cert.KernelIdeal.Gen Idealize.ShloMosaic Idealize.ShloMosaic.TcCoe Idealize.SL.Sem

variable {F : FTy → Type} [FloatOps F]

/-- A stored part of a table: its place, and its values. -/
abbrev tablePiece (w : FVec F S128x128 .f32) (off : Fin 2 → Nat) (inb : ∀ a, off a + S128x128.size a ≤ S1024x128.size a) :
    View.Piece (Elt F) S1024x128 .f32 :=
  ⟨Rect.unit (s := S1024x128) off S128x128.size inb, w⟩

/-- The eight parts of the table of scales, the last stored first. -/
def scalePieces (B : Vec F S12x16x1024 .i8) (D : Vec F S16x1024 .i16) : List (View.Piece (Elt F) S1024x128 .f32) :=
  [tablePiece (scaleTable (View.ld B (Rect.unit (s := S12x16x1024) ![0, 0, 896] S12x16x128.size inb_S12x16x1024_S12x16x128_0_0_896))
      (View.ld D (Rect.unit (s := S16x1024) ![0, 896] S16x128.size inb_S16x1024_S16x128_0_896))) ![896, 0] inb_S1024x128_S128x128_896_0,
   tablePiece (scaleTable (View.ld B (Rect.unit (s := S12x16x1024) ![0, 0, 768] S12x16x128.size inb_S12x16x1024_S12x16x128_0_0_768))
      (View.ld D (Rect.unit (s := S16x1024) ![0, 768] S16x128.size inb_S16x1024_S16x128_0_768))) ![768, 0] inb_S1024x128_S128x128_768_0,
   tablePiece (scaleTable (View.ld B (Rect.unit (s := S12x16x1024) ![0, 0, 640] S12x16x128.size inb_S12x16x1024_S12x16x128_0_0_640))
      (View.ld D (Rect.unit (s := S16x1024) ![0, 640] S16x128.size inb_S16x1024_S16x128_0_640))) ![640, 0] inb_S1024x128_S128x128_640_0,
   tablePiece (scaleTable (View.ld B (Rect.unit (s := S12x16x1024) ![0, 0, 512] S12x16x128.size inb_S12x16x1024_S12x16x128_0_0_512))
      (View.ld D (Rect.unit (s := S16x1024) ![0, 512] S16x128.size inb_S16x1024_S16x128_0_512))) ![512, 0] inb_S1024x128_S128x128_512_0,
   tablePiece (scaleTable (View.ld B (Rect.unit (s := S12x16x1024) ![0, 0, 384] S12x16x128.size inb_S12x16x1024_S12x16x128_0_0_384))
      (View.ld D (Rect.unit (s := S16x1024) ![0, 384] S16x128.size inb_S16x1024_S16x128_0_384))) ![384, 0] inb_S1024x128_S128x128_384_0,
   tablePiece (scaleTable (View.ld B (Rect.unit (s := S12x16x1024) ![0, 0, 256] S12x16x128.size inb_S12x16x1024_S12x16x128_0_0_256))
      (View.ld D (Rect.unit (s := S16x1024) ![0, 256] S16x128.size inb_S16x1024_S16x128_0_256))) ![256, 0] inb_S1024x128_S128x128_256_0,
   tablePiece (scaleTable (View.ld B (Rect.unit (s := S12x16x1024) ![0, 0, 128] S12x16x128.size inb_S12x16x1024_S12x16x128_0_0_128))
      (View.ld D (Rect.unit (s := S16x1024) ![0, 128] S16x128.size inb_S16x1024_S16x128_0_128))) ![128, 0] inb_S1024x128_S128x128_128_0,
   tablePiece (scaleTable (View.ld B (Rect.unit (s := S12x16x1024) ![0, 0, 0] S12x16x128.size inb_S12x16x1024_S12x16x128_0_0_0))
      (View.ld D (Rect.unit (s := S16x1024) ![0, 0] S16x128.size inb_S16x1024_S16x128_0_0))) ![0, 0] inb_S1024x128_S128x128_0_0]

/-- The eight parts of the table of offsets, the last stored first. -/
def offsetPieces (B : Vec F S12x16x1024 .i8) (D : Vec F S16x1024 .i16) : List (View.Piece (Elt F) S1024x128 .f32) :=
  [tablePiece (offsetTable (View.ld B (Rect.unit (s := S12x16x1024) ![0, 0, 896] S12x16x128.size inb_S12x16x1024_S12x16x128_0_0_896))
      (View.ld D (Rect.unit (s := S16x1024) ![0, 896] S16x128.size inb_S16x1024_S16x128_0_896))) ![896, 0] inb_S1024x128_S128x128_896_0,
   tablePiece (offsetTable (View.ld B (Rect.unit (s := S12x16x1024) ![0, 0, 768] S12x16x128.size inb_S12x16x1024_S12x16x128_0_0_768))
      (View.ld D (Rect.unit (s := S16x1024) ![0, 768] S16x128.size inb_S16x1024_S16x128_0_768))) ![768, 0] inb_S1024x128_S128x128_768_0,
   tablePiece (offsetTable (View.ld B (Rect.unit (s := S12x16x1024) ![0, 0, 640] S12x16x128.size inb_S12x16x1024_S12x16x128_0_0_640))
      (View.ld D (Rect.unit (s := S16x1024) ![0, 640] S16x128.size inb_S16x1024_S16x128_0_640))) ![640, 0] inb_S1024x128_S128x128_640_0,
   tablePiece (offsetTable (View.ld B (Rect.unit (s := S12x16x1024) ![0, 0, 512] S12x16x128.size inb_S12x16x1024_S12x16x128_0_0_512))
      (View.ld D (Rect.unit (s := S16x1024) ![0, 512] S16x128.size inb_S16x1024_S16x128_0_512))) ![512, 0] inb_S1024x128_S128x128_512_0,
   tablePiece (offsetTable (View.ld B (Rect.unit (s := S12x16x1024) ![0, 0, 384] S12x16x128.size inb_S12x16x1024_S12x16x128_0_0_384))
      (View.ld D (Rect.unit (s := S16x1024) ![0, 384] S16x128.size inb_S16x1024_S16x128_0_384))) ![384, 0] inb_S1024x128_S128x128_384_0,
   tablePiece (offsetTable (View.ld B (Rect.unit (s := S12x16x1024) ![0, 0, 256] S12x16x128.size inb_S12x16x1024_S12x16x128_0_0_256))
      (View.ld D (Rect.unit (s := S16x1024) ![0, 256] S16x128.size inb_S16x1024_S16x128_0_256))) ![256, 0] inb_S1024x128_S128x128_256_0,
   tablePiece (offsetTable (View.ld B (Rect.unit (s := S12x16x1024) ![0, 0, 128] S12x16x128.size inb_S12x16x1024_S12x16x128_0_0_128))
      (View.ld D (Rect.unit (s := S16x1024) ![0, 128] S16x128.size inb_S16x1024_S16x128_0_128))) ![128, 0] inb_S1024x128_S128x128_128_0,
   tablePiece (offsetTable (View.ld B (Rect.unit (s := S12x16x1024) ![0, 0, 0] S12x16x128.size inb_S12x16x1024_S12x16x128_0_0_0))
      (View.ld D (Rect.unit (s := S16x1024) ![0, 0] S16x128.size inb_S16x1024_S16x128_0_0))) ![0, 0] inb_S1024x128_S128x128_0_0]

/-- A point that builds the tables leaves in the weight scratch the tiles of all the trips, over the tables. -/
theorem kernelRun_A_scratch (c : Dev nD) (i : grid0.Coords) (arg2 : Memref sig .tc .vmem S1024x4096 .bf16) (harg2 : arg2.IsWhole) (arg3 :
    Memref sig .tc .vmem S1024x2048 .i8) (harg3 : arg3.IsWhole) (arg4 : Memref sig .tc .vmem S16x1024 .i16)
    (harg4 : arg4.IsWhole) (arg5 : Memref sig .tc .vmem S16x1024 .i16) (harg5 : arg5.IsWhole) (arg6 : Memref sig
    .tc .vmem S12x16x1024 .i8) (harg6 : arg6.IsWhole) (arg7 : Memref sig .tc .vmem S1024x1024 .bf16) (harg7 :
    arg7.IsWhole) (arg8 : Memref sig .tc .vmem S1024x4096 .bf16) (harg8 : arg8.IsWhole) (arg9 : Memref sig .tc
    .vmem S1024x128 .f32) (harg9 : arg9.IsWhole) (arg10 : Memref sig .tc .vmem S1024x128 .f32) (harg10 :
    arg10.IsWhole) (hc0 : cond0_0 i) (x0 : Vec F S1024x4096 .bf16) (x1 : Vec F S1024x2048 .i8) (x2 : Vec F
    S16x1024 .i16) (x3 : Vec F S16x1024 .i16) (x4 : Vec F S12x16x1024 .i8) :
    (kernelRun0_A (F := F) c i arg2 harg2 arg3 harg3 arg4 harg4 arg5 harg5 arg6 harg6 arg7 harg7 arg8 harg8 arg9 harg9 arg10 harg10 hc0 x0 x1 x2 x3 x4).2.1
      = pb_k0_t1 Variants.none c none i arg2 harg2 arg3 harg3 arg4 harg4 arg5 harg5 arg6 harg6 arg7 harg7 arg8 harg8
          arg9 harg9 arg10 harg10 hc0 (harg3.unread x1)
          (arg9.view.writes (Elt F) arg9.view.junk
            (scalePieces (arg6.view.read (Elt F) (harg6.unread x4)) (arg4.view.read (Elt F) (harg4.unread x2))))
          (arg10.view.writes (Elt F) arg10.view.junk
            (offsetPieces (arg6.view.read (Elt F) (harg6.unread x4)) (arg5.view.read (Elt F) (harg5.unread x3))))
          k0_t1_loop.trips := by
  unfold kernelRun0_A
  rfl

end Cert.KernelIdeal.Q4
-- ==== Proof.TileValue.lean ====
/-
What one tile holds, element by element: quantity times scale minus offset.
-/
module

public import proofs.«01_k».proof.Proof.Tile
public import Idealize.ShloMosaic.Lib.Pointwise
public import Idealize.ShloMosaic.Lib.BitcastFour

@[expose] public section

set_option maxRecDepth 16384

noncomputable section

namespace Cert.KernelIdeal.Q4

open Cert.KernelIdeal Cert.KernelIdeal.Gen Idealize.ShloMosaic Idealize.ShloMosaic.TcCoe Idealize.SL.Sem

/-- The 4-bit quantity in a byte: its low (`sub = 0`) or high (`sub = 1`) half. -/
def nib (b : BitVec 8) (sub : Nat) : BitVec 8 := (b >>> (4 * sub)) &&& 15#8

/-- The quantity as a number. -/
def quant (b : BitVec 8) (sub : Nat) : EReal := (((nib b sub).toNat : ℝ) : EReal)

theorem nibbleShift_lane : ∀ l : Fin 128, nibbleShift (ix2 0 l) = BitVec.ofNat 32 (4 * (l.val / 32 % 2)) := by
  decide +kernel

/-- A lane's shift is four times the parity of its group of 32. -/
theorem nibbleShift_apply (a : Fin 8) (l : Fin 128) : nibbleShift (ix2 a l) = BitVec.ofNat 32 (4 * (l.val / 32 % 2)) :=
  nibbleShift_lane l

theorem byteLane_lane : ∀ (h : Fin 2) (l : Fin 128),
    byteLane (BitVec.ofNat 32 (64 * h.val)) (ix2 0 l) = BitVec.ofNat 32 (64 * h.val + 32 * (l.val / 64) + l.val % 32) := by
  decide +kernel

/-- The byte column of a lane: two groups of 32 lanes share 32 bytes. -/
theorem byteLane_apply (h : Fin 2) (a : Fin 8) (l : Fin 128) :
    byteLane (BitVec.ofNat 32 (64 * h.val)) (ix2 a l) = BitVec.ofNat 32 (64 * h.val + 32 * (l.val / 64) + l.val % 32) :=
  byteLane_lane h l

theorem scaleLane_lane : ∀ (h : Fin 2) (sb : Fin 16) (l : Fin 128),
    scaleLane (BitVec.ofNat 32 (4 * h.val)) (BitVec.ofNat 32 sb.val) (ix2 0 l)
      = BitVec.ofNat 32 (16 * (l.val / 32 + 4 * h.val) + sb.val) := by
  decide +kernel

/-- The table column of a lane: sub-block first, superblock second. -/
theorem scaleLane_apply (h : Fin 2) (sb : Fin 16) (r : Fin 32) (l : Fin 128) :
    scaleLane (BitVec.ofNat 32 (4 * h.val)) (BitVec.ofNat 32 sb.val) (ix2 r l)
      = BitVec.ofNat 32 (16 * (l.val / 32 + 4 * h.val) + sb.val) :=
  scaleLane_lane h sb l

theorem nib_signExtend_fin : ∀ (n : Fin 256) (s : Fin 2),
    ((nib (BitVec.ofFin n) s.val).signExtend 32).toInt = ((nib (BitVec.ofFin n) s.val).toNat : Int) := by
  decide +kernel

/-- A quantity is below 128, so widening it with its sign keeps it. -/
theorem nib_signExtend (b : BitVec 8) (s : Nat) (hs : s < 2) :
    ((nib b s).signExtend 32).toInt = ((nib b s).toNat : Int) :=
  nib_signExtend_fin b.toFin ⟨s, hs⟩

theorem mask_bit : ∀ q : Fin 32, (252645135#32 : BitVec 32).getLsbD q.val = decide (q.val % 8 < 4) := by
  decide +kernel

theorem mask8_bit : ∀ q : Fin 8, (15#8 : BitVec 8).getLsbD q.val = decide (q.val < 4) := by
  decide +kernel

/-- The byte column of lane `l` in half `h`. -/
def byteCol (h : Fin 2) (l : Fin 128) : Fin 128 := ⟨64 * h.val + 32 * (l.val / 64) + l.val % 32, by omega⟩

/-- The table column of lane `l` in half `h` of superblock `sb`. -/
def tableCol (h : Fin 2) (sb : Fin 16) (l : Fin 128) : Fin 128 := ⟨16 * (l.val / 32 + 4 * h.val) + sb.val, by omega⟩

variable {F : FTy → Type} [FloatOps F]

/-- A gather along the lanes reads the lane that the index names. -/
theorem gather_lane {α : Type} {R : Nat} (x : (⟨2, ![R, 128]⟩ : Shape).Idx → α) (idx : IVec ⟨2, ![R, 128]⟩ 32)
    (r : Fin R) (l c : Fin 128) (hc : idx (ix2 r l) = BitVec.ofNat 32 c.val) :
    dynamicGather 1 x idx (ix2 r l) = x (ix2 r c) := by
  rw [dynamicGather_apply]
  congr 1
  funext b
  match b with
  | ⟨0, _⟩ => rfl
  | ⟨1, _⟩ =>
    apply Fin.ext
    show (idx (ix2 r l)).toNat % 128 = c.val
    rw [hc, BitVec.toNat_ofNat]
    have := c.isLt
    omega

/-- The table entry that a lane takes. -/
theorem tableLane_apply (h : Fin 2) (sb : Fin 16) (s : Vec F S32x128 .f32) (r : Fin 32) (l : Fin 128) :
    tableLane (BitVec.ofNat 32 (4 * h.val)) (BitVec.ofNat 32 sb.val) s (ix2 r l) = s (ix2 r (tableCol h sb l)) := by
  unfold tableLane
  rw [shapeCast_shapeCast]
  exact gather_lane _ _ r l (tableCol h sb l) (scaleLane_apply h sb r l)

/-- Bytes of a word: byte row `r` is byte `r % 4` of word row `r / 4`. -/
theorem bitcast_32_8_bit (x : IVec S8x128 32) (r : Fin 32) (l : Fin 128) (q : Nat) (hq : q < 8) :
    (bitcast S32x128 8 x bitcasts_S8x128_w32_S32x128_w8 (ix2 r l)).getLsbD q
      = (x (ix2 ⟨r.val / 4, by omega⟩ l)).getLsbD (8 * (r.val % 4) + q) := by
  rw [bitcast_getLsbD x _ (ix2 r l) q hq (by decide)]
  have hrow : Shape.row (⟨2, ![32, 128]⟩ : Shape) (ix2 r l) = r.val := rfl
  have hq4 : (Shape.row (⟨2, ![32, 128]⟩ : Shape) (ix2 r l) * 8 + q) / 32 = r.val / 4 := by rw [hrow]; omega
  congr 1
  · congr 1
    funext c
    match c with
    | ⟨0, _⟩ =>
      refine Fin.ext ((Shape.Bitcasts.srcIdx_row _ _ _ _ ⟨0, Nat.zero_lt_two⟩ rfl).trans ?_)
      exact hq4
    | ⟨1, _⟩ => exact Fin.ext (Shape.Bitcasts.srcIdx_other _ _ _ _ ⟨1, Nat.one_lt_two⟩ (by decide))
  · rw [hrow]; omega

/-- The quantity that a lane takes out of its byte. -/
theorem nibbles_apply (h : Fin 2) (v : Vec Ideal S32x128 .i8) (r : Fin 32) (l : Fin 128) :
    nibbles (F := Ideal) (BitVec.ofNat 32 (64 * h.val)) v (ix2 r l) = quant (v (ix2 r (byteCol h l))) (l.val / 32 % 2) := by
  have hl := l.isLt
  have hr := r.isLt
  have key : bitcast S32x128 8
      (andi (shrui (dynamicGather 1 (bitcast S8x128 32 (v : IVec S32x128 8) bitcasts_S32x128_w8_S8x128_w32)
          (shapeCast S8x128 (shapeCast S8x128x1 (byteLane (BitVec.ofNat 32 (64 * h.val))) shapeCasts_S8x128_S8x128x1) shapeCasts_S8x128x1_S8x128))
        nibbleShift) (broadcast S8x128 252645135#32))
      bitcasts_S8x128_w32_S32x128_w8 (ix2 r l) = nib (v (ix2 r (byteCol h l))) (l.val / 32 % 2) := by
    rw [shapeCast_shapeCast]
    apply BitVec.eq_of_getLsbD_eq
    intro q hq
    rw [bitcast_32_8_bit _ r l q hq]
    have hm : 8 * (r.val % 4) + q < 32 := by omega
    show (IntOp.andi (IntOp.shrui .vector (dynamicGather 1 _ (byteLane (BitVec.ofNat 32 (64 * h.val))) (ix2 _ l))
      (nibbleShift (ix2 _ l))) 252645135#32).getLsbD _ = _
    rw [gather_lane _ _ _ l (byteCol h l) (byteLane_apply h _ l), nibbleShift_apply]
    have e : ∀ x : BitVec 32, IntOp.shrui .vector x (BitVec.ofNat 32 (4 * (l.val / 32 % 2))) = x >>> (4 * (l.val / 32 % 2)) := by
      intro x
      have hs : 4 * (l.val / 32 % 2) < 32 := by omega
      simp [IntOp.shrui, Nat.mod_eq_of_lt (show 4 * (l.val / 32 % 2) < 4294967296 by omega), hs]
    rw [e]
    unfold nib
    rw [IntOp.andi, BitVec.getLsbD_and, BitVec.getLsbD_and, mask_bit ⟨_, hm⟩, mask8_bit ⟨q, hq⟩,
      BitVec.getLsbD_ushiftRight, BitVec.getLsbD_ushiftRight]
    have e4 : (8 * (r.val % 4) + q) % 8 = q := by omega
    simp only [e4]
    by_cases h4 : q < 4
    · congr 1
      have hp : r.val = 4 * (r.val / 4) + (4 * (l.val / 32 % 2) + (8 * (r.val % 4) + q)) / 8 := by omega
      refine (bitcast_8_32_getLsbD_ix2 v bitcasts_S32x128_w8_S8x128_w32 ⟨r.val / 4, by omega⟩ (byteCol h l) _ (by omega) r hp).trans ?_
      congr 1
      omega
    · simp [h4]
  show ((((BitVec.signExtend 32 (bitcast S32x128 8 _ _ (ix2 r l))).toInt : ℤ) : ℝ) : EReal) = _
  rw [key, nib_signExtend _ _ (by omega)]
  simp [quant]

/-- A tile's element: quantity times scale minus offset. -/
theorem tile_apply (h : Fin 2) (sb : Fin 16) (v : Vec Ideal S32x128 .i8) (s o : Vec Ideal S32x128 .f32) (r : Fin 32) (l : Fin 128) :
    tile (F := Ideal) (BitVec.ofNat 32 (64 * h.val)) (BitVec.ofNat 32 (4 * h.val)) (BitVec.ofNat 32 sb.val) v s o (ix2 r l)
      = quant (v (ix2 r (byteCol h l))) (l.val / 32 % 2) * s (ix2 r (tableCol h sb l)) - o (ix2 r (tableCol h sb l)) := by
  unfold tile
  rw [shapeCast_self]
  show nibbles (F := Ideal) (BitVec.ofNat 32 (64 * h.val)) v (ix2 r l)
      * tableLane (F := Ideal) (BitVec.ofNat 32 (4 * h.val)) (BitVec.ofNat 32 sb.val) s (ix2 r l)
      - tableLane (F := Ideal) (BitVec.ofNat 32 (4 * h.val)) (BitVec.ofNat 32 sb.val) o (ix2 r l) = _
  rw [nibbles_apply, tableLane_apply, tableLane_apply]

end Cert.KernelIdeal.Q4
-- ==== Proof.Half.lean ====
/-
The number that a float16's word denotes, and that the kernel's way of decoding the word gives this number.
-/
module

public import proofs.«01_k».proof.Proof.Table
public import Idealize.ShloMosaic.Lib.Pointwise

@[expose] public section

set_option maxRecDepth 16384

noncomputable section

namespace Cert.KernelIdeal.Q4

open Cert.KernelIdeal Cert.KernelIdeal.Gen Idealize.ShloMosaic Idealize.ShloMosaic.TcCoe Idealize.SL.Sem

/-- The exponent field of a float16's word. -/
def halfE (w : BitVec 16) : Nat := w.toNat / 2 ^ 10 % 2 ^ 5

/-- The fraction field of a float16's word. -/
def halfF (w : BitVec 16) : Nat := w.toNat / 2 ^ 0 % 2 ^ 10

/-- The magnitude that a float16's word denotes; the exponent of all ones is infinity or no number. -/
def halfNumAbs (w : BitVec 16) : EReal :=
  if halfE w = 0 then (((halfF w : ℝ) * (2 : ℝ) ^ (-24 : ℤ) : ℝ) : EReal)
  else if halfE w = 31 then (if halfF w = 0 then ⊤ else ⊥)
  else (((1024 + halfF w : ℝ) * (2 : ℝ) ^ halfE w * (2 : ℝ) ^ (-25 : ℤ) : ℝ) : EReal)

/-- The number that a float16's word denotes. -/
def halfNum (w : BitVec 16) : EReal := if w.toNat / 2 ^ 15 % 2 ^ 1 = 1 then -halfNumAbs w else halfNumAbs w

/-- A field of a 16-bit word, taken out of the word widened with its sign. -/
theorem field (w : BitVec 16) (k n : Nat) (h : k + n ≤ 16) :
    (w.signExtend 32).sshiftRight k &&& BitVec.ofNat 32 (2 ^ n - 1) = BitVec.ofNat 32 (w.toNat / 2 ^ k % 2 ^ n) := by
  apply BitVec.eq_of_getLsbD_eq
  intro i hi
  simp only [BitVec.getLsbD_and, BitVec.getLsbD_sshiftRight, BitVec.getLsbD_signExtend, BitVec.getLsbD_ofNat,
    Nat.testBit_mod_two_pow, Nat.testBit_div_two_pow, Nat.testBit_two_pow_sub_one]
  by_cases hin : i < n
  · have h1 : k + i < 32 := by omega
    have h2 : k + i < 16 := by omega
    have h3 : ¬ 32 ≤ i := by omega
    simp [hin, hi, h1, h2, h3, BitVec.getLsbD, Nat.add_comm]
  · simp [hin]

theorem field0 (w : BitVec 16) (n : Nat) (h : n ≤ 16) :
    w.signExtend 32 &&& BitVec.ofNat 32 (2 ^ n - 1) = BitVec.ofNat 32 (w.toNat / 2 ^ 0 % 2 ^ n) := by
  have := field w 0 n (by omega)
  simpa using this

/-- The sign bit, masked in place. -/
theorem signBit (w : BitVec 16) : (w.signExtend 32 &&& 32768#32 != 0#32) = decide (w.toNat / 2 ^ 15 % 2 ^ 1 = 1) := by
  have e : (32768#32 : BitVec 32) = BitVec.twoPow 32 15 := by decide
  rw [e, BitVec.and_twoPow, BitVec.getLsbD_signExtend]
  have hb : w.getLsbD 15 = decide (w.toNat / 2 ^ 15 % 2 ^ 1 = 1) := by
    rw [BitVec.getLsbD, Nat.testBit_eq_decide_div_mod_eq, Nat.pow_one]
  simp only [show (15 : Nat) < 32 by omega, show (15 : Nat) < 16 by omega, decide_true, Bool.true_and, if_true, hb]
  by_cases h : w.toNat / 2 ^ 15 % 2 ^ 1 = 1
  · simp only [h, decide_true, if_true]; decide
  · simp only [h, decide_false]; decide

theorem pow24 : Ideal.ofBits .f32 0x33800000#32 = (((2 : ℝ) ^ (-24 : ℤ) : ℝ) : EReal) := by
  simp [Ideal.ofBits, Ideal.ieee, -EReal.coe_mul]; norm_num

/-- The float32 whose exponent and fraction are a float16's, the exponent moved by the difference of the biases. -/
theorem widened (e f C : Nat) (he : e < 32) (hf : f < 1024) (h0 : e ≠ 0) (hC : C = if e = 31 then 1879048192 else 939524096) :
    Ideal.ofBits .f32 (BitVec.ofNat 32 ((1024 * e + f) * 8192 + C))
      = if e = 31 then (if f = 0 then ⊤ else ⊥) else (((1024 + f : ℝ) * (2 : ℝ) ^ e * (2 : ℝ) ^ (-25 : ℤ) : ℝ) : EReal) := by
  have hsign : ((BitVec.ofNat 32 ((1024 * e + f) * 8192 + C)).extractLsb' (8 + 23) 1 == 1#1) = false := by
    rw [beq_eq_false_iff_ne]
    intro hh
    have := congrArg BitVec.toNat hh
    rw [BitVec.extractLsb'_toNat, BitVec.toNat_ofNat, Nat.shiftRight_eq_div_pow] at this
    simp at this
    split at hC <;> omega
  have hex : ((BitVec.ofNat 32 ((1024 * e + f) * 8192 + C)).extractLsb' 23 8).toNat = if e = 31 then 255 else e + 112 := by
    rw [BitVec.extractLsb'_toNat, BitVec.toNat_ofNat, Nat.shiftRight_eq_div_pow]
    split at hC <;> simp only [*, if_true, if_false] <;> omega
  have hfr : ((BitVec.ofNat 32 ((1024 * e + f) * 8192 + C)).extractLsb' 0 23).toNat = f * 8192 := by
    rw [BitVec.extractLsb'_toNat, BitVec.toNat_ofNat, Nat.shiftRight_eq_div_pow]
    split at hC <;> omega
  show Ideal.ieee 8 23 _ = _
  unfold Ideal.ieee
  dsimp only
  rw [hsign, hex, hfr]
  by_cases h31 : e = 31
  · by_cases hf0 : f = 0
    · simp [h31, hf0]
    · simp [h31, hf0]
  · have h1 : ¬ (e + 112 = 2 ^ 8 - 1) := by omega
    have h2 : ¬ (e + 112 = 0) := by omega
    simp only [h31, if_false, h1, h2]
    congr 1
    have hp : (2 : ℝ) ^ (((e + 112 : ℕ) : ℤ) - (2 ^ (8 - 1) - 1) - (23 : ℕ)) = (2 : ℝ) ^ e * (2 : ℝ) ^ (-38 : ℤ) := by
      rw [← zpow_natCast, ← zpow_add₀ (by norm_num)]
      congr 1
      push_cast
      ring
    rw [hp]
    push_cast
    norm_num
    ring

/-- The kernel's decoding of a float16's word is the number that the word denotes. -/
theorem halfVal_apply (h : IVec S16x128 32) (i : S16x128.Idx) (w : BitVec 16) (hw : h i = w.signExtend 32) :
    halfVal (F := Ideal) h i = halfNum w := by
  have hmag : halfMag h i = BitVec.ofNat 32 (w.toNat / 2 ^ 0 % 2 ^ 15) := by
    show h i &&& 32767#32 = _
    rw [hw]; exact field0 w 15 (by omega)
  have hE : halfE w = w.toNat / 1024 % 32 := rfl
  have hF : halfF w = w.toNat / 1 % 1024 := rfl
  have hm : w.toNat / 2 ^ 0 % 2 ^ 15 = 1024 * halfE w + halfF w := by rw [hE, hF]; omega
  rw [hm] at hmag
  have he : halfE w < 32 := by rw [hE]; omega
  have hf : halfF w < 1024 := by rw [hF]; omega
  have hexp : halfExp h i = BitVec.ofNat 32 (halfE w) := by
    show IntOp.shrsi .vector (halfMag h i) 10#32 = _
    rw [hmag]
    show (BitVec.ofNat 32 (1024 * halfE w + halfF w)).sshiftRight 10 = _
    rw [BitVec.sshiftRight_eq_of_msb_false]
    · apply BitVec.eq_of_toNat_eq
      rw [BitVec.toNat_ushiftRight, BitVec.toNat_ofNat, BitVec.toNat_ofNat, Nat.shiftRight_eq_div_pow]
      omega
    · rw [BitVec.msb_eq_false_iff_two_mul_lt, BitVec.toNat_ofNat]
      omega
  have habs : halfAbs (F := Ideal) h i = halfNumAbs w := by
    show (if IntOp.cmpi .eq (halfExp h i) 0#32 = 1
        then (((halfMag h i).toInt : ℝ) : EReal) * Ideal.ofBits .f32 0x33800000#32
        else Ideal.ofBits .f32 (IntOp.addi (IntOp.shli .vector (halfMag h i) 13#32)
          (if IntOp.cmpi .eq (halfExp h i) 31#32 = 1 then 1879048192#32 else 939524096#32))) = _
    rw [hexp, hmag]
    have c0 : ∀ n : Nat, n < 32 → (IntOp.cmpi .eq (BitVec.ofNat 32 (halfE w)) (BitVec.ofNat 32 n) = 1 ↔ halfE w = n) := by
      intro n hn
      have : IntOp.cmpi .eq (BitVec.ofNat 32 (halfE w)) (BitVec.ofNat 32 n)
          = BitVec.ofBool (BitVec.ofNat 32 (halfE w) == BitVec.ofNat 32 n) := rfl
      rw [this]
      by_cases hh : halfE w = n
      · rw [hh]; simp
      · have hne : BitVec.ofNat 32 (halfE w) ≠ BitVec.ofNat 32 n := by
          intro hc
          have := congrArg BitVec.toNat hc
          rw [BitVec.toNat_ofNat, BitVec.toNat_ofNat] at this
          omega
        rw [beq_false_of_ne hne]
        simp [hh]
    unfold halfNumAbs
    by_cases h0 : halfE w = 0
    · rw [if_pos ((c0 0 (by omega)).2 h0), if_pos h0, pow24, ← EReal.coe_mul]
      congr 2
      rw [h0, BitVec.toInt_eq_toNat_of_lt (by rw [BitVec.toNat_ofNat]; omega), BitVec.toNat_ofNat]
      rw [Nat.mod_eq_of_lt (by omega)]
      simp
    · rw [if_neg (fun hc => h0 ((c0 0 (by omega)).1 hc)), if_neg h0]
      rw [← widened (halfE w) (halfF w) (if halfE w = 31 then 1879048192 else 939524096) he hf h0 rfl]
      congr 1
      have e1 : (if IntOp.cmpi .eq (BitVec.ofNat 32 (halfE w)) 31#32 = 1 then 1879048192#32 else 939524096#32)
          = BitVec.ofNat 32 (if halfE w = 31 then 1879048192 else 939524096) := by
        by_cases h31 : halfE w = 31
        · rw [if_pos ((c0 31 (by omega)).2 h31), if_pos h31]
        · rw [if_neg (fun hc => h31 ((c0 31 (by omega)).1 hc)), if_neg h31]
      rw [e1]
      show (BitVec.ofNat 32 (1024 * halfE w + halfF w)) <<< 13 + _ = _
      apply BitVec.eq_of_toNat_eq
      rw [BitVec.toNat_add, BitVec.toNat_shiftLeft, BitVec.toNat_ofNat, BitVec.toNat_ofNat, BitVec.toNat_ofNat, Nat.shiftLeft_eq]
      omega
  show (if BitVec.ofBool (h i &&& 32768#32 != 0#32) = 1
      then Ideal.ofBits .f32 0x00000000#32 - halfAbs (F := Ideal) h i else halfAbs (F := Ideal) h i) = _
  rw [habs, hw, signBit]
  unfold halfNum
  by_cases hs : w.toNat / 2 ^ 15 % 2 ^ 1 = 1
  · have hz : Ideal.ofBits .f32 0x00000000#32 = 0 := by simp [Ideal.ofBits, Ideal.ieee]
    rw [if_pos hs, hz, zero_sub, decide_eq_true hs]
    exact if_pos rfl
  · rw [if_neg hs, decide_eq_false hs]
    exact if_neg (by decide)

end Cert.KernelIdeal.Q4
-- ==== Proof.TableValue.lean ====
/-
What a scale table holds, element by element: the number of a row's float16 word times a 6-bit code.
-/
module

public import proofs.«01_k».proof.Proof.Half

@[expose] public section

set_option maxRecDepth 16384

noncomputable section

namespace Cert.KernelIdeal.Q4

open Cert.KernelIdeal Cert.KernelIdeal.Gen Idealize.ShloMosaic Idealize.ShloMosaic.TcCoe Idealize.SL.Sem

/-- The 6-bit code of sub-block `c` in the twelve packed bytes: six bits of byte `off + c` for the first four
sub-blocks, and for the last four a nibble of byte `4 + c` (the one at `sh`) below the two top bits of byte
`off + c - 4`. -/
def codeWord (off sh : Nat) (b : Nat → BitVec 8) (c : Nat) : BitVec 32 :=
  if c < 4 then (b (off + c)).setWidth 32 &&& 63#32
  else (((b (4 + c)).setWidth 32).sshiftRight sh &&& 15#32) ||| (((b (off + c - 4)).setWidth 32).sshiftRight 6 <<< 4)

/-- The code as a number. -/
def codeNum (off sh : Nat) (b : Nat → BitVec 8) (c : Nat) : EReal := (((codeWord off sh b c).toInt : ℝ) : EReal)

/-- The codes of the eight sub-blocks, over 128 rows. -/
def codes (sh : BitVec 32) (lo hi : IVec S4x16x128 32) : Fin 8 → IVec S16x128 32
  | 0 => codeLo (row4 0 lo slices_S4x16x128_o0_0_0_S1x16x128)
  | 1 => codeLo (row4 1 lo slices_S4x16x128_o1_0_0_S1x16x128)
  | 2 => codeLo (row4 2 lo slices_S4x16x128_o2_0_0_S1x16x128)
  | 3 => codeLo (row4 3 lo slices_S4x16x128_o3_0_0_S1x16x128)
  | 4 => codeHi sh (row4 0 hi slices_S4x16x128_o0_0_0_S1x16x128) (row4 0 lo slices_S4x16x128_o0_0_0_S1x16x128)
  | 5 => codeHi sh (row4 1 hi slices_S4x16x128_o1_0_0_S1x16x128) (row4 1 lo slices_S4x16x128_o1_0_0_S1x16x128)
  | 6 => codeHi sh (row4 2 hi slices_S4x16x128_o2_0_0_S1x16x128) (row4 2 lo slices_S4x16x128_o2_0_0_S1x16x128)
  | 7 => codeHi sh (row4 3 hi slices_S4x16x128_o3_0_0_S1x16x128) (row4 3 lo slices_S4x16x128_o3_0_0_S1x16x128)

/-- The eight parts of a table are the eight sub-blocks' codes, each times the rows' values. -/
theorem table_eq (sh : BitVec 32) (lo hi : IVec S4x16x128 32) (d : Vec Ideal S16x128 .i16) :
    table (F := Ideal) sh lo hi d
      = shapeCast S128x128
          (transpose S128x128 [1, 0]
            (concatenate S128x128 0
              (List.ofFn fun n : Fin 8 => (⟨S16x128, scaled (F := Ideal) (rowVal d) (codes sh lo hi n)⟩ : (s : Shape) × (s.Idx → Ideal .f32)))
              concatenates_S16x128_S16x128_S16x128_S16x128_S16x128_S16x128_S16x128_S16x128_S128x128_d0)
            transposes_S128x128_p1_0_S128x128)
          shapeCasts_S128x128_S128x128 := rfl

/-- A table's entry at column `16 c + sb` is the row's value of superblock `sb` times the code of sub-block `c`. -/
theorem table_apply (sh : BitVec 32) (lo hi : IVec S4x16x128 32) (d : Vec Ideal S16x128 .i16) (r : Fin 128) (c : Fin 8) (sb : Fin 16)
    (l : Fin 128) (hl : l.val = 16 * c.val + sb.val) :
    table (F := Ideal) sh lo hi d (ix2 r l) = halfNum (d (ix2 sb r)) * (((codes sh lo hi c (ix2 sb r)).toInt : ℝ) : EReal) := by
  rw [table_eq, shapeCast_self]
  refine (transpose_apply _ _ _ (ix2 r l) (ix2 l r) (fun b => match b with | ⟨0, _⟩ => rfl | ⟨1, _⟩ => rfl)).trans ?_
  refine (concatenate_ofFn_apply (t := S128x128) (s₁ := S16x128) 0 (fun n : Fin 8 => scaled (F := Ideal) (rowVal d) (codes sh lo hi n)) _ rfl 16 rfl
    (ix2 l r) c ?_ (ix2 sb r) ?_ ?_).trans ?_
  · show l.val / 16 = c.val
    omega
  · show sb.val = l.val % 16
    omega
  · intro b hb
    match b with
    | ⟨0, _⟩ => exact absurd rfl hb
    | ⟨1, _⟩ => rfl
  · show rowVal (F := Ideal) d (ix2 sb r) * (((codes sh lo hi c (ix2 sb r)).toInt : ℝ) : EReal) = _
    congr 1
    refine halfVal_apply _ _ _ ?_
    rw [shapeCast_self]
    rfl

/-- Row `n` of four, read at an index. -/
theorem row4_apply (n : Nat) (v : IVec S4x16x128 32) (h : S4x16x128.Slices ![n, 0, 0] S1x16x128) (hn : n < 4) (a : Fin 16) (r : Fin 128) :
    row4 n v h (ix2 a r) = v (ix3 ⟨n, hn⟩ a r) := by
  unfold row4
  refine (shapeCast_apply _ _ (ix2 a r) (ix3 0 a r) ?_).trans ?_
  · rw [Shape.rowMajor_val_three, Shape.rowMajor_val_two]
    show (0 * 16 + a.val) * 128 + r.val = a.val * 128 + r.val
    omega
  · exact extractStridedSlice_apply _ v h _ _ (fun b => match b with
      | ⟨0, _⟩ => rfl | ⟨1, _⟩ => (Nat.zero_add _).symm | ⟨2, _⟩ => (Nat.zero_add _).symm)

theorem byte_mask : ∀ n : Fin 256, (BitVec.ofFin n : BitVec 8).setWidth 32 &&& 255#32 = (BitVec.ofFin n : BitVec 8).setWidth 32 := by
  decide +kernel

/-- Four of the packed bytes, read at an index. -/
theorem bytes_apply (off : Nat) (b : Vec Ideal S12x16x128 .i8) (h : S12x16x128.Slices ![off, 0, 0] S4x16x128) (n : Fin 4)
    (hn : off + n.val < 12) (a : Fin 16) (r : Fin 128) :
    extractStridedSlice S4x16x128 ![off, 0, 0] (codeBytes (F := Ideal) b) h (ix3 n a r) = (b (ix3 ⟨off + n.val, hn⟩ a r)).setWidth 32 := by
  refine (extractStridedSlice_apply _ _ h _ (ix3 ⟨off + n.val, hn⟩ a r) (fun b => match b with
      | ⟨0, _⟩ => rfl | ⟨1, _⟩ => (Nat.zero_add _).symm | ⟨2, _⟩ => (Nat.zero_add _).symm)).trans ?_
  unfold codeBytes
  rw [shapeCast_self]
  exact byte_mask (b (ix3 ⟨off + n.val, hn⟩ a r)).toFin

/-- The byte `n` of a column of packed bytes, a byte past the twelfth read as zero. -/
def byteAt {R : Nat} (b : (⟨3, ![12, 16, R]⟩ : Shape).Idx → BitVec 8) (a : Fin 16) (r : Fin R) (n : Nat) : BitVec 8 :=
  if h : n < 12 then b (ix3 ⟨n, h⟩ a r) else 0#8

/-- A sub-block's code in a table is the code of the packed bytes. -/
theorem codes_apply (off sh : Nat) (hoff : off ≤ 4) (hsh : sh < 32) (b : Vec Ideal S12x16x128 .i8) (h : S12x16x128.Slices ![off, 0, 0] S4x16x128)
    (h8 : S12x16x128.Slices ![8, 0, 0] S4x16x128) (c : Fin 8) (a : Fin 16) (r : Fin 128) :
    codes (BitVec.ofNat 32 sh) (extractStridedSlice S4x16x128 ![off, 0, 0] (codeBytes (F := Ideal) b) h)
        (extractStridedSlice S4x16x128 ![8, 0, 0] (codeBytes (F := Ideal) b) h8) c (ix2 a r)
      = codeWord off sh (byteAt b a r) c.val := by
  have lo : ∀ (n : Fin 4) (g : S4x16x128.Slices ![n.val, 0, 0] S1x16x128),
      row4 n.val (extractStridedSlice S4x16x128 ![off, 0, 0] (codeBytes (F := Ideal) b) h) g (ix2 a r)
        = (byteAt b a r (off + n.val)).setWidth 32 := by
    intro n g
    rw [row4_apply _ _ _ n.isLt, bytes_apply off b h _ (by have := n.isLt; omega)]
    rw [byteAt, dif_pos (by have := n.isLt; omega)]
  have hi : ∀ (n : Fin 4) (g : S4x16x128.Slices ![n.val, 0, 0] S1x16x128),
      row4 n.val (extractStridedSlice S4x16x128 ![8, 0, 0] (codeBytes (F := Ideal) b) h8) g (ix2 a r)
        = (byteAt b a r (8 + n.val)).setWidth 32 := by
    intro n g
    rw [row4_apply _ _ _ n.isLt, bytes_apply 8 b h8 _ (by have := n.isLt; omega)]
    rw [byteAt, dif_pos (by have := n.isLt; omega)]
  have shr : ∀ (x : BitVec 32) (k : Nat), k < 32 → IntOp.shrsi .vector x (BitVec.ofNat 32 k) = x.sshiftRight k := by
    intro x k hk
    have e : (BitVec.ofNat 32 k).toNat = k := by rw [BitVec.toNat_ofNat]; omega
    unfold IntOp.shrsi
    rw [e, if_pos hk, BitVec.sshiftRight', e]
  have low : ∀ (n : Fin 4) (g : S4x16x128.Slices ![n.val, 0, 0] S1x16x128),
      codeLo (row4 n.val (extractStridedSlice S4x16x128 ![off, 0, 0] (codeBytes (F := Ideal) b) h) g) (ix2 a r)
        = codeWord off sh (byteAt b a r) n.val := by
    intro n g
    rw [codeWord, if_pos n.isLt, ← lo n g]
    rfl
  have high : ∀ (n : Fin 4) (g : S4x16x128.Slices ![n.val, 0, 0] S1x16x128),
      codeHi (BitVec.ofNat 32 sh) (row4 n.val (extractStridedSlice S4x16x128 ![8, 0, 0] (codeBytes (F := Ideal) b) h8) g)
          (row4 n.val (extractStridedSlice S4x16x128 ![off, 0, 0] (codeBytes (F := Ideal) b) h) g) (ix2 a r)
        = codeWord off sh (byteAt b a r) (4 + n.val) := by
    intro n g
    rw [codeWord, if_neg (by omega), show 4 + (4 + n.val) = 8 + n.val by omega, show off + (4 + n.val) - 4 = off + n.val by omega,
      ← lo n g, ← hi n g, ← shr _ sh hsh]
    rfl
  match c with
  | 0 => exact low 0 _
  | 1 => exact low 1 _
  | 2 => exact low 2 _
  | 3 => exact low 3 _
  | 4 => exact high 0 _
  | 5 => exact high 1 _
  | 6 => exact high 2 _
  | 7 => exact high 3 _

/-- An entry of the table of scales. -/
theorem scaleTable_apply (b : Vec Ideal S12x16x128 .i8) (d : Vec Ideal S16x128 .i16) (r : Fin 128) (c : Fin 8) (sb : Fin 16)
    (l : Fin 128) (hl : l.val = 16 * c.val + sb.val) :
    scaleTable (F := Ideal) b d (ix2 r l) = halfNum (d (ix2 sb r)) * codeNum 0 0 (byteAt b sb r) c.val := by
  unfold scaleTable
  rw [table_apply _ _ _ d r c sb l hl, codeNum]
  rw [show (0#32 : BitVec 32) = BitVec.ofNat 32 0 from rfl, codes_apply 0 0 (by omega) (by omega)]

/-- An entry of the table of offsets. -/
theorem offsetTable_apply (b : Vec Ideal S12x16x128 .i8) (d : Vec Ideal S16x128 .i16) (r : Fin 128) (c : Fin 8) (sb : Fin 16)
    (l : Fin 128) (hl : l.val = 16 * c.val + sb.val) :
    offsetTable (F := Ideal) b d (ix2 r l) = halfNum (d (ix2 sb r)) * codeNum 4 4 (byteAt b sb r) c.val := by
  unfold offsetTable
  rw [table_apply _ _ _ d r c sb l hl, codeNum]
  rw [show (4#32 : BitVec 32) = BitVec.ofNat 32 4 from rfl, codes_apply 4 4 (by omega) (by omega)]

end Cert.KernelIdeal.Q4
-- ==== Proof.TableRead.lean ====
/-
What the whole tables hold: 1024 rows, of which each of the eight parts stored holds 128.
-/
module

public import proofs.«01_k».proof.Proof.TableValue
public import proofs.«01_k».proof.Proof.TablePieces
public import Idealize.ShloMosaic.Lib.Pipeline.ValueKit.Tiles

@[expose] public section

set_option maxRecDepth 16384

noncomputable section

namespace Cert.KernelIdeal.Q4

open Cert.KernelIdeal Cert.KernelIdeal.Gen Idealize.ShloMosaic Idealize.ShloMosaic.TcCoe Idealize.SL.Sem

/-- The table of 1024 rows: the number of the row's float16 word for superblock `l % 16` times the code of sub-block `l / 16`. -/
def wholeTable (off sh : Nat) (B : Vec Ideal S12x16x1024 .i8) (D : Vec Ideal S16x1024 .i16) : Vec Ideal S1024x128 .f32 :=
  fun y => halfNum (D (ix2 (⟨(y 1).val % 16, Nat.mod_lt _ (by decide)⟩ : Fin 16) (⟨(y 0).val, (y 0).isLt⟩ : Fin 1024)))
    * codeNum off sh (byteAt B (⟨(y 1).val % 16, Nat.mod_lt _ (by decide)⟩ : Fin 16) (⟨(y 0).val, (y 0).isLt⟩ : Fin 1024)) ((y 1).val / 16)

/-- A part of a table whose entries are as `scaleTable_apply` and `offsetTable_apply` say agrees with the whole table. -/
theorem part_agrees (off sh : Nat) (tab : Vec Ideal S12x16x128 .i8 → Vec Ideal S16x128 .i16 → FVec Ideal S128x128 .f32)
    (htab : ∀ (b : Vec Ideal S12x16x128 .i8) (d : Vec Ideal S16x128 .i16) (r : Fin 128) (c : Fin 8) (sb : Fin 16)
      (l : Fin 128), l.val = 16 * c.val + sb.val → tab b d (ix2 r l) = halfNum (d (ix2 sb r)) * codeNum off sh (byteAt b sb r) c.val)
    (B : Vec Ideal S12x16x1024 .i8) (D : Vec Ideal S16x1024 .i16) (n : Nat)
    (inbB : ∀ a, (![0, 0, n] : Fin 3 → Nat) a + S12x16x128.size a ≤ S12x16x1024.size a)
    (inbD : ∀ a, (![0, n] : Fin 2 → Nat) a + S16x128.size a ≤ S16x1024.size a)
    (inb : ∀ a, (![n, 0] : Fin 2 → Nat) a + S128x128.size a ≤ S1024x128.size a) (x : S128x128.Idx) :
    tab (View.ld B (Rect.unit (s := S12x16x1024) ![0, 0, n] S12x16x128.size inbB)) (View.ld D (Rect.unit (s := S16x1024) ![0, n] S16x128.size inbD)) x
      = wholeTable off sh B D ((Rect.unit (s := S1024x128) ![n, 0] S128x128.size inb).emb x) := by
  obtain ⟨r, l, rfl⟩ : ∃ (r : Fin 128) (l : Fin 128), x = ix2 r l := ⟨x 0, x 1, by funext a; match a with | ⟨0, _⟩ => rfl | ⟨1, _⟩ => rfl⟩
  have hl := l.isLt
  have hr := r.isLt
  have hn : n + 128 ≤ 1024 := inb 0
  have e0 : (((Rect.unit (s := S1024x128) ![n, 0] S128x128.size inb).emb (ix2 r l)) 0 : Nat) = n + r.val := by
    show n + 1 * r.val = _; omega
  have e1 : (((Rect.unit (s := S1024x128) ![n, 0] S128x128.size inb).emb (ix2 r l)) 1 : Nat) = l.val := by
    show 0 + 1 * l.val = _; omega
  have es : (⟨l.val % 16, Nat.mod_lt _ (by decide)⟩ : Fin 16) = ⟨(((Rect.unit (s := S1024x128) ![n, 0] S128x128.size inb).emb (ix2 r l)) 1 : Nat) % 16, Nat.mod_lt _ (by decide)⟩ :=
    Fin.ext (by show l.val % 16 = _ % 16; rw [e1])
  rw [htab _ _ r ⟨l.val / 16, by omega⟩ ⟨l.val % 16, by omega⟩ l (by show l.val = 16 * (l.val / 16) + l.val % 16; omega)]
  unfold wholeTable
  rw [← es, e1]
  congr 2
  · refine View.ld_unit_apply_of D _ _ inbD _ _ (fun a => ?_)
    match a with
    | ⟨0, _⟩ => exact (Nat.zero_add _).symm
    | ⟨1, _⟩ => exact e0
  · funext k
    unfold byteAt
    by_cases hk : k < 12
    · rw [dif_pos hk, dif_pos hk]
      refine View.ld_unit_apply_of B _ _ inbB _ _ (fun a => ?_)
      match a with
      | ⟨0, _⟩ => exact (Nat.zero_add _).symm
      | ⟨1, _⟩ => exact (Nat.zero_add _).symm
      | ⟨2, _⟩ => exact e0
    · rw [dif_neg hk, dif_neg hk]

/-- Eight parts of a table at the places where the kernel stores them. -/
abbrev parts (w : Fin 8 → FVec Ideal S128x128 .f32) : List (View.Piece (Elt Ideal) S1024x128 .f32) :=
  [tablePiece (w 0) ![896, 0] inb_S1024x128_S128x128_896_0, tablePiece (w 1) ![768, 0] inb_S1024x128_S128x128_768_0,
   tablePiece (w 2) ![640, 0] inb_S1024x128_S128x128_640_0, tablePiece (w 3) ![512, 0] inb_S1024x128_S128x128_512_0,
   tablePiece (w 4) ![384, 0] inb_S1024x128_S128x128_384_0, tablePiece (w 5) ![256, 0] inb_S1024x128_S128x128_256_0,
   tablePiece (w 6) ![128, 0] inb_S1024x128_S128x128_128_0, tablePiece (w 7) ![0, 0] inb_S1024x128_S128x128_0_0]

/-- The parts of either table cover it. -/
theorem parts_cover (w : Fin 8 → FVec Ideal S128x128 .f32) (y : S1024x128.Idx) : ∃ p ∈ parts w, y ∈ p.1.set :=
  View.cover_of_tiledL (parts w) S128x128.size (by sl_kernel_rfl) y

/-- The stored parts of the table of scales make up the whole table. -/
theorem canon_scalePieces (B : Vec Ideal S12x16x1024 .i8) (D : Vec Ideal S16x1024 .i16) :
    View.canon (scalePieces (F := Ideal) B D) = wholeTable 0 0 B D := by
  funext y
  refine View.canon_apply_of_pieces _ _ ?_ y ?_
  · have h := part_agrees 0 0 (scaleTable (F := Ideal)) scaleTable_apply B D
    simp only [scalePieces, List.forall_mem_cons]
    exact ⟨h _ _ _ _, h _ _ _ _, h _ _ _ _, h _ _ _ _, h _ _ _ _, h _ _ _ _, h _ _ _ _, h _ _ _ _, fun _ hp => absurd hp List.not_mem_nil⟩
  · exact parts_cover (fun n => match n with
      | 0 => _ | 1 => _ | 2 => _ | 3 => _ | 4 => _ | 5 => _ | 6 => _ | 7 => _) y

/-- The stored parts of the table of offsets make up the whole table. -/
theorem canon_offsetPieces (B : Vec Ideal S12x16x1024 .i8) (D : Vec Ideal S16x1024 .i16) :
    View.canon (offsetPieces (F := Ideal) B D) = wholeTable 4 4 B D := by
  funext y
  refine View.canon_apply_of_pieces _ _ ?_ y ?_
  · have h := part_agrees 4 4 (offsetTable (F := Ideal)) offsetTable_apply B D
    simp only [offsetPieces, List.forall_mem_cons]
    exact ⟨h _ _ _ _, h _ _ _ _, h _ _ _ _, h _ _ _ _, h _ _ _ _, h _ _ _ _, h _ _ _ _, h _ _ _ _, fun _ hp => absurd hp List.not_mem_nil⟩
  · exact parts_cover (fun n => match n with
      | 0 => _ | 1 => _ | 2 => _ | 3 => _ | 4 => _ | 5 => _ | 6 => _ | 7 => _) y

end Cert.KernelIdeal.Q4
-- ==== Proof.Scratch.lean ====
/-
What the weight scratch holds after the dequantizing loop: 1024 rows of the dequantized weight matrix.
-/
module

public import proofs.«01_k».proof.Proof.TileValue
public import proofs.«01_k».proof.Proof.TableRead

@[expose] public section

set_option maxRecDepth 16384

noncomputable section

namespace Cert.KernelIdeal.Q4

open Cert.KernelIdeal Cert.KernelIdeal.Gen Idealize.ShloMosaic Idealize.ShloMosaic.TcCoe Idealize.SL.Sem

/-- The weight in column `p` of a row, from its byte of quantities, its superblock's two float16 words and its
superblock's twelve code bytes: quantity times scale minus offset. -/
def weight (q : BitVec 8) (d m : BitVec 16) (b : Nat → BitVec 8) (p : Nat) : EReal :=
  quant q (p / 32 % 2) * (halfNum d * codeNum 0 0 b (p / 32 % 8)) - halfNum m * codeNum 4 4 b (p / 32 % 8)

/-- The byte column that holds the quantity of column `p`. -/
def quantCol (p : Fin 4096) : Fin 2048 := ⟨32 * (p.val / 64) + p.val % 32, by omega⟩

/-- The superblock of column `p`. -/
def superOf (p : Fin 4096) : Fin 16 := ⟨p.val / 256, by omega⟩

/-- The weight matrix of `R` rows, the float16 words and code bytes transposed. -/
def weights {R : Nat} (Q : (⟨2, ![R, 2048]⟩ : Shape).Idx → BitVec 8) (D M : (⟨2, ![16, R]⟩ : Shape).Idx → BitVec 16)
    (B : (⟨3, ![12, 16, R]⟩ : Shape).Idx → BitVec 8) (r : Fin R) (p : Fin 4096) : EReal :=
  weight (Q (ix2 r (quantCol p))) (D (ix2 (superOf p) r)) (M (ix2 (superOf p) r)) (byteAt B (superOf p) r) p.val

/-- The scratch's contents: 1024 rows of the weight matrix. -/
def scratchW (Q : Vec Ideal S1024x2048 .i8) (D M : Vec Ideal S16x1024 .i16) (B : Vec Ideal S12x16x1024 .i8) : Vec Ideal S1024x4096 .bf16 :=
  fun y => weights (R := 1024) Q D M B ⟨(y 0).val, (y 0).isLt⟩ ⟨(y 1).val, (y 1).isLt⟩

/-- A tile agrees with the weight matrix at its place. -/
theorem tile_agrees (Q : Vec Ideal S1024x2048 .i8) (D M : Vec Ideal S16x1024 .i16) (B : Vec Ideal S12x16x1024 .i8)
    (k : Nat) (offs : Fin 2 → Nat) (inbs : ∀ a, offs a + S32x128.size a ≤ S1024x128.size a) (hoffs : offs = ![32 * k, 0])
    (h : Fin 2) (sb : Fin 16) {off : Fin 2 → Nat} {inb : ∀ a, off a + S32x128.size a ≤ S1024x4096.size a}
    {offq : Fin 2 → Nat} {inbq : ∀ a, offq a + S32x128.size a ≤ S1024x2048.size a}
    (hoff : off = ![32 * k, 256 * sb.val + 128 * h.val]) (hoffq : offq = ![32 * k, 128 * sb.val]) (x : S32x128.Idx) :
    tile (F := Ideal) (BitVec.ofNat 32 (64 * h.val)) (BitVec.ofNat 32 (4 * h.val)) (BitVec.ofNat 32 sb.val)
        (View.ld Q (Rect.unit (s := S1024x2048) offq S32x128.size inbq))
        (View.ld (wholeTable 0 0 B D) (Rect.unit (s := S1024x128) offs S32x128.size inbs))
        (View.ld (wholeTable 4 4 B M) (Rect.unit (s := S1024x128) offs S32x128.size inbs)) x
      = scratchW Q D M B ((Rect.unit (s := S1024x4096) off S32x128.size inb).emb x) := by
  subst hoff hoffq hoffs
  obtain ⟨r, l, rfl⟩ : ∃ (r : Fin 32) (l : Fin 128), x = ix2 r l := ⟨x 0, x 1, by funext a; match a with | ⟨0, _⟩ => rfl | ⟨1, _⟩ => rfl⟩
  have hl := l.isLt
  have hr := r.isLt
  have hh := h.isLt
  have hsb := sb.isLt
  have hk : 32 * k + 32 ≤ 1024 := inbs 0
  have ey : (Rect.unit (s := S1024x4096) ![32 * k, 256 * sb.val + 128 * h.val] S32x128.size inb).emb (ix2 r l)
      = (ix2 (⟨32 * k + r.val, by omega⟩ : Fin 1024) (⟨256 * sb.val + 128 * h.val + l.val, by omega⟩ : Fin 4096)) := by
    funext a
    match a with
    | ⟨0, _⟩ => exact Fin.ext (by show 32 * k + 1 * r.val = 32 * k + r.val; omega)
    | ⟨1, _⟩ => exact Fin.ext (by show 256 * sb.val + 128 * h.val + 1 * l.val = 256 * sb.val + 128 * h.val + l.val; omega)
  rw [ey, tile_apply]
  have eq : View.ld Q (Rect.unit (s := S1024x2048) ![32 * k, 128 * sb.val] S32x128.size inbq) (ix2 r (byteCol h l))
      = Q (ix2 (⟨32 * k + r.val, by omega⟩ : Fin 1024) (quantCol ⟨256 * sb.val + 128 * h.val + l.val, by omega⟩)) := by
    refine View.ld_unit_apply_of Q _ _ inbq _ _ (fun a => ?_)
    match a with
    | ⟨0, _⟩ => rfl
    | ⟨1, _⟩ =>
      show 32 * ((256 * sb.val + 128 * h.val + l.val) / 64) + (256 * sb.val + 128 * h.val + l.val) % 32
        = 128 * sb.val + (64 * h.val + 32 * (l.val / 64) + l.val % 32)
      omega
  have et : ∀ (o s : Nat) (V : Vec Ideal S16x1024 .i16),
      View.ld (wholeTable o s B V) (Rect.unit (s := S1024x128) ![32 * k, 0] S32x128.size inbs) (ix2 r (tableCol h sb l))
        = halfNum (V (ix2 sb (⟨32 * k + r.val, by omega⟩ : Fin 1024)))
          * codeNum o s (byteAt B sb (⟨32 * k + r.val, by omega⟩ : Fin 1024)) (l.val / 32 + 4 * h.val) := by
    intro o s V
    refine (View.ld_unit_apply_of _ _ _ inbs _ (ix2 (⟨32 * k + r.val, by omega⟩ : Fin 1024) (tableCol h sb l)) (fun a => ?_)).trans ?_
    · match a with
      | ⟨0, _⟩ => rfl
      | ⟨1, _⟩ => exact (Nat.zero_add _).symm
    · have e1 : (16 * (l.val / 32 + 4 * h.val) + sb.val) % 16 = sb.val := by omega
      have e2 : (16 * (l.val / 32 + 4 * h.val) + sb.val) / 16 = l.val / 32 + 4 * h.val := by omega
      show halfNum (V (ix2 (⟨(16 * (l.val / 32 + 4 * h.val) + sb.val) % 16, _⟩ : Fin 16) _))
        * codeNum o s (byteAt B (⟨(16 * (l.val / 32 + 4 * h.val) + sb.val) % 16, _⟩ : Fin 16) _) ((16 * (l.val / 32 + 4 * h.val) + sb.val) / 16) = _
      simp only [e1, e2]
      rfl
  rw [eq, et, et]
  have es : superOf ⟨256 * sb.val + 128 * h.val + l.val, by omega⟩ = sb := by
    apply Fin.ext
    show (256 * sb.val + 128 * h.val + l.val) / 256 = sb.val
    omega
  have ec : (256 * sb.val + 128 * h.val + l.val) / 32 % 8 = l.val / 32 + 4 * h.val := by omega
  have en : (256 * sb.val + 128 * h.val + l.val) / 32 % 2 = l.val / 32 % 2 := by omega
  show _ = weights (R := 1024) Q D M B ⟨32 * k + r.val, _⟩ ⟨256 * sb.val + 128 * h.val + l.val, _⟩
  unfold weights weight
  simp only [es, ec, en]

set_option maxHeartbeats 1000000 in
/-- Every tile of a trip agrees with the weight matrix at its place. -/
theorem tripTiles_agree (i : grid0.Coords) (k0_h1 : k0_cond1 i = 1#1) (k : Fin k0_t1_loop.trips)
    (Q : Vec Ideal S1024x2048 .i8) (D M : Vec Ideal S16x1024 .i16) (B : Vec Ideal S12x16x1024 .i8) :
    ∀ p ∈ tripTiles (F := Ideal) i k0_h1 k Q
        (View.ld (wholeTable 0 0 B D) (Rect.unit (s := S1024x128) (k0_off1 k) S32x128.size (k0_off1_inb i k k0_h1)))
        (View.ld (wholeTable 4 4 B M) (Rect.unit (s := S1024x128) (k0_off1 k) S32x128.size (k0_off1_inb i k k0_h1))),
      ∀ x : p.1.shape.Idx, p.2 x = scratchW Q D M B (p.1.emb x) := by
  have ag := @tile_agrees Q D M B k.val (k0_off1 k) (k0_off1_inb i k k0_h1) (k0_off1_eq k)
  simp only [tripTiles, List.forall_mem_cons]
  exact ⟨
    ag 1 15 (k0_off49_eq k) (k0_off47_eq k),
    ag 0 15 (k0_off48_eq k) (k0_off47_eq k),
    ag 1 14 (k0_off46_eq k) (k0_off44_eq k),
    ag 0 14 (k0_off45_eq k) (k0_off44_eq k),
    ag 1 13 (k0_off43_eq k) (k0_off41_eq k),
    ag 0 13 (k0_off42_eq k) (k0_off41_eq k),
    ag 1 12 (k0_off40_eq k) (k0_off38_eq k),
    ag 0 12 (k0_off39_eq k) (k0_off38_eq k),
    ag 1 11 (k0_off37_eq k) (k0_off35_eq k),
    ag 0 11 (k0_off36_eq k) (k0_off35_eq k),
    ag 1 10 (k0_off34_eq k) (k0_off32_eq k),
    ag 0 10 (k0_off33_eq k) (k0_off32_eq k),
    ag 1 9 (k0_off31_eq k) (k0_off29_eq k),
    ag 0 9 (k0_off30_eq k) (k0_off29_eq k),
    ag 1 8 (k0_off28_eq k) (k0_off26_eq k),
    ag 0 8 (k0_off27_eq k) (k0_off26_eq k),
    ag 1 7 (k0_off25_eq k) (k0_off23_eq k),
    ag 0 7 (k0_off24_eq k) (k0_off23_eq k),
    ag 1 6 (k0_off22_eq k) (k0_off20_eq k),
    ag 0 6 (k0_off21_eq k) (k0_off20_eq k),
    ag 1 5 (k0_off19_eq k) (k0_off17_eq k),
    ag 0 5 (k0_off18_eq k) (k0_off17_eq k),
    ag 1 4 (k0_off16_eq k) (k0_off14_eq k),
    ag 0 4 (k0_off15_eq k) (k0_off14_eq k),
    ag 1 3 (k0_off13_eq k) (k0_off11_eq k),
    ag 0 3 (k0_off12_eq k) (k0_off11_eq k),
    ag 1 2 (k0_off10_eq k) (k0_off8_eq k),
    ag 0 2 (k0_off9_eq k) (k0_off8_eq k),
    ag 1 1 (k0_off7_eq k) (k0_off5_eq k),
    ag 0 1 (k0_off6_eq k) (k0_off5_eq k),
    ag 1 0 (k0_off4_eq k) (k0_off2_eq k),
    ag 0 0 (k0_off3_eq k) (k0_off2_eq k),
    fun _ hp => absurd hp List.not_mem_nil⟩

end Cert.KernelIdeal.Q4
-- ==== Proof.Loop.lean ====
/-
What a grid point leaves: the weight scratch after the dequantizing loop, and the block of the result.
-/
module

public import proofs.«01_k».proof.Proof.TablePieces
public import proofs.«01_k».proof.Proof.Scratch
public import proofs.«01_k».proof.Proof.Gen.KernelIdeal.Frame
public import Idealize.ShloMosaic.Lib.MatmulPlain

@[expose] public section

set_option maxRecDepth 65536

noncomputable section

namespace Cert.KernelIdeal.Q4

open Cert.KernelIdeal Cert.KernelIdeal.Gen Idealize.ShloMosaic Idealize.ShloMosaic.TcCoe Idealize.SL.Sem

variable (c : Dev nD) (i : grid0.Coords)
  (arg2 : Memref sig .tc .vmem S1024x4096 .bf16) (harg2 : arg2.IsWhole)
  (arg3 : Memref sig .tc .vmem S1024x2048 .i8) (harg3 : arg3.IsWhole)
  (arg4 : Memref sig .tc .vmem S16x1024 .i16) (harg4 : arg4.IsWhole)
  (arg5 : Memref sig .tc .vmem S16x1024 .i16) (harg5 : arg5.IsWhole)
  (arg6 : Memref sig .tc .vmem S12x16x1024 .i8) (harg6 : arg6.IsWhole)
  (arg7 : Memref sig .tc .vmem S1024x1024 .bf16) (harg7 : arg7.IsWhole)
  (arg8 : Memref sig .tc .vmem S1024x4096 .bf16) (harg8 : arg8.IsWhole)
  (arg9 : Memref sig .tc .vmem S1024x128 .f32) (harg9 : arg9.IsWhole)
  (arg10 : Memref sig .tc .vmem S1024x128 .f32) (harg10 : arg10.IsWhole)

/-- Every tile that the first `n` trips of the loop store agrees with the weight matrix at its place. -/
theorem loop_agrees (hc0 : k0_cond1 i = 1#1)
    (X3 : BufTy.Contents (Elt Ideal) arg3.view.ty) (X9 : BufTy.Contents (Elt Ideal) arg9.view.ty)
    (X10 : BufTy.Contents (Elt Ideal) arg10.view.ty)
    (Q : Vec Ideal S1024x2048 .i8) (D M : Vec Ideal S16x1024 .i16) (B : Vec Ideal S12x16x1024 .i8)
    (h3 : arg3.view.read (Elt Ideal) X3 = Q) (h9 : arg9.view.read (Elt Ideal) X9 = wholeTable 0 0 B D)
    (h10 : arg10.view.read (Elt Ideal) X10 = wholeTable 4 4 B M) :
    ∀ n : Nat, n ≤ k0_t1_loop.trips → ∀ p ∈ pb_k0_t1 (F := Ideal) Variants.none c none i arg2 harg2 arg3 harg3 arg4 harg4 arg5 harg5
        arg6 harg6 arg7 harg7 arg8 harg8 arg9 harg9 arg10 harg10 hc0 X3 X9 X10 n,
      ∀ x : p.1.shape.Idx, p.2 x = scratchW Q D M B (p.1.emb x)
  | 0, _ => fun p hp => absurd hp List.not_mem_nil
  | n + 1, hn => fun p hp => by
    have e := pb_k0_t1_succ (F := Ideal) Variants.none c none i arg2 harg2 arg3 harg3 arg4 harg4 arg5 harg5
        arg6 harg6 arg7 harg7 arg8 harg8 arg9 harg9 arg10 harg10 hc0 X3 X9 X10 ⟨n, hn⟩
    rw [show pb_k0_t1 (F := Ideal) Variants.none c none i arg2 harg2 arg3 harg3 arg4 harg4 arg5 harg5
        arg6 harg6 arg7 harg7 arg8 harg8 arg9 harg9 arg10 harg10 hc0 X3 X9 X10 (n + 1) = _ from e, tripL_eq, h3, h9, h10] at hp
    rcases List.mem_append.mp hp with h | h
    · exact tripTiles_agree i hc0 ⟨n, hn⟩ Q D M B p h
    · exact loop_agrees hc0 X3 X9 X10 Q D M B h3 h9 h10 n (Nat.le_of_lt hn) p h

variable (hc0 : cond0_0 i) (hc0' : ¬cond0_0 i) (x0 : Vec Ideal S1024x4096 .bf16) (x1 : Vec Ideal S1024x2048 .i8)
  (x2 : Vec Ideal S16x1024 .i16) (x3 : Vec Ideal S16x1024 .i16) (x4 : Vec Ideal S12x16x1024 .i8) (xs : Vec Ideal S1024x4096 .bf16)

/-- The tiles that a building point stores in the weight scratch make up 1024 rows of the weight matrix. -/
theorem canon_scratch :
    View.canon (kernelRun0_A (F := Ideal) c i arg2 harg2 arg3 harg3 arg4 harg4 arg5 harg5 arg6 harg6 arg7 harg7 arg8 harg8 arg9 harg9
        arg10 harg10 hc0 x0 x1 x2 x3 x4).2.1 = scratchW x1 x2 x3 x4 := by
  funext y
  refine View.canon_apply_of_pieces _ _ ?_ y (scover0_A_0 c i arg2 harg2 arg3 harg3 arg4 harg4 arg5 harg5 arg6 harg6 arg7 harg7
    arg8 harg8 arg9 harg9 arg10 harg10 hc0 x0 x1 x2 x3 x4 y)
  rw [kernelRun_A_scratch]
  refine loop_agrees c i arg2 harg2 arg3 harg3 arg4 harg4 arg5 harg5 arg6 harg6 arg7 harg7
    arg8 harg8 arg9 harg9 arg10 harg10 hc0 _ _ _ x1 x2 x3 x4 (harg3.read_unread x1) ?_ ?_ _ le_rfl
  · rw [View.read_writes_junk_eq_canon, harg6.read_unread, harg4.read_unread, canon_scalePieces]
  · rw [View.read_writes_junk_eq_canon, harg6.read_unread, harg5.read_unread, canon_offsetPieces]

/-- A building point leaves 1024 rows of the weight matrix in the weight scratch. -/
theorem sout_A : sout0_A_0 (F := Ideal) c i arg2 harg2 arg3 harg3 arg4 harg4 arg5 harg5 arg6 harg6 arg7 harg7 arg8 harg8 arg9 harg9
        arg10 harg10 hc0 x0 x1 x2 x3 x4 = scratchW x1 x2 x3 x4 := by
  unfold sout0_A_0
  rw [View.read_writes_junk_eq_canon, canon_scratch]

/-- Any other point leaves the weight scratch as it was. -/
theorem sout_B : sout0_B_0 (F := Ideal) c i arg2 harg2 arg3 harg3 arg4 harg4 arg5 harg5 arg6 harg6 arg7 harg7 arg8 harg8 arg9 harg9
        arg10 harg10 hc0' x0 x1 x2 x3 x4 xs = xs := rfl

/-- The block of the result that a point computes from the activations and the weight scratch. -/
def blockY (x w : Vec Ideal S1024x4096 .bf16) : Vec Ideal S1024x1024 .bf16 := k0_pay4 (F := Ideal) x w

/-- One element of the block is the sum, over the 4096 columns, of activation times weight. -/
theorem blockY_apply (x w : Vec Ideal S1024x4096 .bf16) (a b : Fin 1024) :
    blockY x w (ix2 a b) = ∑ p : Fin 4096, x (ix2 a p) * w (ix2 b p) := by
  have e : dot_S1024x4096_S1024x4096_S1024x1024_1_1_0_0_n_n = DotDims.transposedRhs 1024 4096 1024 := rfl
  show FloatOps.matmul (F := Ideal) (φ₁ := .bf16) (φ₂ := .bf16) dot_S1024x4096_S1024x4096_S1024x1024_1_1_0_0_n_n none
    (shapeCast S1024x4096 x shapeCasts_S1024x4096_S1024x4096) w (constant S1024x1024 .f32 0x00000000#32) (ix2 a b) = _
  rw [shapeCast_self, e]
  refine (Ideal.matmul_transposedRhs_apply _ _ _ _ _ _).trans ?_
  have z : Ideal.ofBits .f32 0x00000000#32 = 0 := Ideal.ofBits_zero_f32
  show Ideal.ofBits .f32 0x00000000#32 + _ = _
  rw [z, zero_add]
  rfl

/-- A building point computes its block from the weights that it has just built. -/
theorem out_A : out0_A_5 (F := Ideal) c i arg2 harg2 arg3 harg3 arg4 harg4 arg5 harg5 arg6 harg6 arg7 harg7 arg8 harg8 arg9 harg9
        arg10 harg10 hc0 x0 x1 x2 x3 x4 = blockY x0 (scratchW x1 x2 x3 x4) := by
  unfold out0_A_5
  rw [View.read_writes_junk_eq_canon]
  have e : (kernelRun0_A (F := Ideal) c i arg2 harg2 arg3 harg3 arg4 harg4 arg5 harg5 arg6 harg6 arg7 harg7 arg8 harg8 arg9 harg9
        arg10 harg10 hc0 x0 x1 x2 x3 x4).1 = [⟨Rect.unit (s := S1024x1024) ![0, 0] S1024x1024.size inb_S1024x1024_S1024x1024_0_0,
          k0_pay4 (F := Ideal)
            (View.ld (arg2.view.read (Elt Ideal) (harg2.unread x0)) (Rect.unit (s := S1024x4096) ![0, 0] S1024x4096.size inb_S1024x4096_S1024x4096_0_0))
            (View.readCov arg8.view (kernelRun0_A (F := Ideal) c i arg2 harg2 arg3 harg3 arg4 harg4 arg5 harg5 arg6 harg6 arg7 harg7 arg8 harg8 arg9 harg9
              arg10 harg10 hc0 x0 x1 x2 x3 x4).2.1 (Rect.unit (s := S1024x4096) ![0, 0] S1024x4096.size inb_S1024x4096_S1024x4096_0_0).toLoadRect)⟩] := by
    unfold kernelRun0_A
    rfl
  have z : (![0, 0] : Fin 2 → Nat) = fun _ => 0 := by decide
  rw [e, View.canon_unit_zero z, View.readCov_eq_canon', canon_scratch, harg2.read_unread, View.ld_unit_zero z]
  exact congrArg (blockY x0) (View.ld_unit_zero z _ _)

/-- Any other point computes its block from the weights that it found. -/
theorem out_B : out0_B_5 (F := Ideal) c i arg2 harg2 arg3 harg3 arg4 harg4 arg5 harg5 arg6 harg6 arg7 harg7 arg8 harg8 arg9 harg9
        arg10 harg10 hc0' x0 x1 x2 x3 x4 xs = blockY x0 xs := by
  unfold out0_B_5
  rw [View.read_writes_junk_eq_canon]
  have e : (kernelRun0_B (F := Ideal) c i arg2 harg2 arg3 harg3 arg4 harg4 arg5 harg5 arg6 harg6 arg7 harg7 arg8 harg8 arg9 harg9
        arg10 harg10 hc0' x0 x1 x2 x3 x4 xs).1 = [⟨Rect.unit (s := S1024x1024) ![0, 0] S1024x1024.size inb_S1024x1024_S1024x1024_0_0,
          k0_pay4 (F := Ideal)
            (View.ld (arg2.view.read (Elt Ideal) (harg2.unread x0)) (Rect.unit (s := S1024x4096) ![0, 0] S1024x4096.size inb_S1024x4096_S1024x4096_0_0))
            (View.ld (arg8.view.read (Elt Ideal) (harg8.unread xs)) (Rect.unit (s := S1024x4096) ![0, 0] S1024x4096.size inb_S1024x4096_S1024x4096_0_0))⟩] := by
    unfold kernelRun0_B
    rfl
  have z : (![0, 0] : Fin 2 → Nat) = fun _ => 0 := by decide
  rw [e, View.canon_unit_zero z, harg8.read_unread, harg2.read_unread, View.ld_unit_zero z, View.ld_unit_zero z]
  rfl

end Cert.KernelIdeal.Q4
-- ==== Proof.KernelValue.lean ====
/-
What the kernel's result array holds at the end: activations times the dequantized weight matrix.
-/
module

public import proofs.«01_k».proof.Proof.Loop
public import proofs.«01_k».proof.Proof.Gen.KernelIdeal.Value

@[expose] public section

set_option maxRecDepth 16384

noncomputable section

namespace Cert.KernelIdeal.Q4

open Cert.KernelIdeal Cert.KernelIdeal.Gen Idealize.ShloMosaic Idealize.ShloMosaic.TcCoe Idealize.SL.Sem

/-- The twelve code bytes of superblock `s` of row `n`; a byte past the twelfth is zero. -/
def codeBytesOf (S : (⟨3, ![14336, 16, 12]⟩ : Shape).Idx → BitVec 8) (n : Fin 14336) (s : Fin 16) (k : Nat) : BitVec 8 :=
  if h : k < 12 then S (ix3 n s ⟨k, h⟩) else 0#8

/-- The weight in row `n` and column `p`, from the five arguments' words. -/
def weightAt (Q : (⟨2, ![14336, 2048]⟩ : Shape).Idx → BitVec 8) (D M : (⟨2, ![14336, 16]⟩ : Shape).Idx → BitVec 16)
    (S : (⟨3, ![14336, 16, 12]⟩ : Shape).Idx → BitVec 8) (n : Fin 14336) (p : Fin 4096) : EReal :=
  weight (Q (ix2 n (quantCol p))) (D (ix2 n (superOf p))) (M (ix2 n (superOf p))) (codeBytesOf S n (superOf p)) p.val

/-- The linear layer: row `a` of the activations times row `n` of the weight matrix. -/
def layer (X : (⟨3, ![6144, 1, 4096]⟩ : Shape).Idx → EReal) (Q : (⟨2, ![14336, 2048]⟩ : Shape).Idx → BitVec 8)
    (D M : (⟨2, ![14336, 16]⟩ : Shape).Idx → BitVec 16) (S : (⟨3, ![14336, 16, 12]⟩ : Shape).Idx → BitVec 8)
    (a : Fin 6144) (n : Fin 14336) : EReal :=
  ∑ p : Fin 4096, X (ix3 a 0 p) * weightAt Q D M S n p

variable (m : (ℓ : Loc nD τ sig) → Buf (Elt Ideal) ℓ) (c : Dev nD)

/-- The region finds the activations as a matrix. -/
theorem V_x : V m c main_v0 = shapeCast S6144x4096 (m ((c : Thread nD τ).loc main_arg0)) shapeCasts_S6144x1x4096_S6144x4096 := by
  show StableHlo.after hostOps0 (fun b => m (c, b)) (Proc.devRef .tc main_v0) = _
  after_results
  rfl

/-- The region finds the scales' float16 words transposed. -/
theorem V_d : V m c main_v1 = transpose S16x14336 [1, 0] (m ((c : Thread nD τ).loc main_arg2)) transposes_S14336x16_S16x14336_1_0 := by
  show StableHlo.after hostOps0 (fun b => m (c, b)) (Proc.devRef .tc main_v1) = _
  after_results

/-- The region finds the offsets' float16 words transposed. -/
theorem V_dmin : V m c main_v2 = transpose S16x14336 [1, 0] (m ((c : Thread nD τ).loc main_arg3)) transposes_S14336x16_S16x14336_1_0 := by
  show StableHlo.after hostOps0 (fun b => m (c, b)) (Proc.devRef .tc main_v2) = _
  after_results

/-- The region finds the code bytes with their axes reversed. -/
theorem V_sc : V m c main_v3 = transpose S12x16x14336 [2, 1, 0] (m ((c : Thread nD τ).loc main_arg4)) transposes_S14336x16x12_S12x16x14336_2_1_0 := by
  show StableHlo.after hostOps0 (fun b => m (c, b)) (Proc.devRef .tc main_v3) = _
  after_results

/-- The block of each operand at a grid point. -/
theorem block_facts : ∀ t : Fin cfg0.N,
    win0_0.index t (0 : Fin 2) = t.val % 6 ∧ win0_0.index t (1 : Fin 2) = 0
    ∧ win0_1.index t (0 : Fin 2) = t.val / 6 ∧ win0_1.index t (1 : Fin 2) = 0
    ∧ win0_2.index t (0 : Fin 2) = 0 ∧ win0_2.index t (1 : Fin 2) = t.val / 6
    ∧ win0_3.index t (0 : Fin 2) = 0 ∧ win0_3.index t (1 : Fin 2) = t.val / 6
    ∧ win0_4.index t (0 : Fin 3) = 0 ∧ win0_4.index t (1 : Fin 3) = 0 ∧ win0_4.index t (2 : Fin 3) = t.val / 6 :=
  (by decide +kernel : ∀ t : Fin grid0.N, _)

/-- The grid has 84 points. -/
theorem point_lt (t : Fin cfg0.N) : t.val < 84 := lt_of_lt_of_eq t.isLt N_0

/-- A point's row block of the activations. -/
theorem x_block (t : Fin cfg0.N) (a : Fin 1024) (p : Fin 4096) :
    iblk m c 0 t (ix2 a p) = m ((c : Thread nD τ).loc main_arg0)
      (ix3 (⟨1024 * (t.val % 6) + a.val, by omega⟩ : Fin 6144) (0 : Fin 1) p) := by
  obtain ⟨e0, e1, -⟩ := block_facts t
  have ee : ((cfg0.win 0).blk t).view.emb (ix2 a p) = (ix2 (⟨1024 * (t.val % 6) + a.val, by omega⟩ : Fin 6144) p) := by
    funext k
    match k with
    | ⟨0, _⟩ => exact Fin.ext (by show win0_0.index t (0 : Fin 2) * 1024 + 1 * a.val = 1024 * (t.val % 6) + a.val; rw [e0]; omega)
    | ⟨1, _⟩ => exact Fin.ext (by show win0_0.index t (1 : Fin 2) * 4096 + 1 * p.val = p.val; rw [e1]; omega)
  show V m c main_v0 (((cfg0.win 0).blk t).view.emb (ix2 a p)) = _
  rw [ee, V_x]
  refine shapeCast_apply _ _ _ _ ?_
  show ((⟨3, ![6144, 1, 4096]⟩ : Shape).rowMajor (ix3 (⟨1024 * (t.val % 6) + a.val, by omega⟩ : Fin 6144) (0 : Fin 1) p)).val
    = ((⟨2, ![6144, 4096]⟩ : Shape).rowMajor (ix2 (⟨1024 * (t.val % 6) + a.val, by omega⟩ : Fin 6144) p)).val
  rw [Shape.rowMajor_val_two, Shape.rowMajor_val_three]
  show ((1024 * (t.val % 6) + a.val) * 1 + 0) * 4096 + p.val = (1024 * (t.val % 6) + a.val) * 4096 + p.val
  omega

/-- A point's row block of the packed quantities. -/
theorem q_block (t : Fin cfg0.N) (r : Fin 1024) (k : Fin 2048) :
    iblk m c 1 t (ix2 r k) = m ((c : Thread nD τ).loc main_arg1)
      (ix2 (⟨1024 * (t.val / 6) + r.val, by have := point_lt t; omega⟩ : Fin 14336) k) := by
  obtain ⟨-, -, e0, e1, -⟩ := block_facts t
  have ht := point_lt t
  have ee : ((cfg0.win 1).blk t).view.emb (ix2 r k) = (ix2 (⟨1024 * (t.val / 6) + r.val, by omega⟩ : Fin 14336) k) := by
    funext b
    match b with
    | ⟨0, _⟩ => exact Fin.ext (by show win0_1.index t (0 : Fin 2) * 1024 + 1 * r.val = 1024 * (t.val / 6) + r.val; rw [e0]; omega)
    | ⟨1, _⟩ => exact Fin.ext (by show win0_1.index t (1 : Fin 2) * 2048 + 1 * k.val = k.val; rw [e1]; omega)
  show V m c main_arg1 (((cfg0.win 1).blk t).view.emb (ix2 r k)) = _
  rw [ee, V_main_arg1]

/-- A point's column block of the scales' words. -/
theorem d_block (t : Fin cfg0.N) (s : Fin 16) (r : Fin 1024) :
    iblk m c 2 t (ix2 s r) = m ((c : Thread nD τ).loc main_arg2)
      (ix2 (⟨1024 * (t.val / 6) + r.val, by have := point_lt t; omega⟩ : Fin 14336) s) := by
  obtain ⟨-, -, -, -, e0, e1, -⟩ := block_facts t
  have ht := point_lt t
  have ee : ((cfg0.win 2).blk t).view.emb (ix2 s r) = (ix2 s (⟨1024 * (t.val / 6) + r.val, by omega⟩ : Fin 14336)) := by
    funext b
    match b with
    | ⟨0, _⟩ => exact Fin.ext (by show win0_2.index t (0 : Fin 2) * 16 + 1 * s.val = s.val; rw [e0]; omega)
    | ⟨1, _⟩ => exact Fin.ext (by show win0_2.index t (1 : Fin 2) * 1024 + 1 * r.val = 1024 * (t.val / 6) + r.val; rw [e1]; omega)
  show V m c main_v1 (((cfg0.win 2).blk t).view.emb (ix2 s r)) = _
  rw [ee, V_d]
  exact transpose_apply _ _ _ _ _ (fun b => match b with | ⟨0, _⟩ => rfl | ⟨1, _⟩ => rfl)

/-- A point's column block of the offsets' words. -/
theorem dmin_block (t : Fin cfg0.N) (s : Fin 16) (r : Fin 1024) :
    iblk m c 3 t (ix2 s r) = m ((c : Thread nD τ).loc main_arg3)
      (ix2 (⟨1024 * (t.val / 6) + r.val, by have := point_lt t; omega⟩ : Fin 14336) s) := by
  obtain ⟨-, -, -, -, -, -, e0, e1, -⟩ := block_facts t
  have ht := point_lt t
  have ee : ((cfg0.win 3).blk t).view.emb (ix2 s r) = (ix2 s (⟨1024 * (t.val / 6) + r.val, by omega⟩ : Fin 14336)) := by
    funext b
    match b with
    | ⟨0, _⟩ => exact Fin.ext (by show win0_3.index t (0 : Fin 2) * 16 + 1 * s.val = s.val; rw [e0]; omega)
    | ⟨1, _⟩ => exact Fin.ext (by show win0_3.index t (1 : Fin 2) * 1024 + 1 * r.val = 1024 * (t.val / 6) + r.val; rw [e1]; omega)
  show V m c main_v2 (((cfg0.win 3).blk t).view.emb (ix2 s r)) = _
  rw [ee, V_dmin]
  exact transpose_apply _ _ _ _ _ (fun b => match b with | ⟨0, _⟩ => rfl | ⟨1, _⟩ => rfl)

/-- A point's block of the code bytes. -/
theorem sc_block (t : Fin cfg0.N) (k : Fin 12) (s : Fin 16) (r : Fin 1024) :
    iblk m c 4 t (ix3 k s r) = m ((c : Thread nD τ).loc main_arg4)
      (ix3 (⟨1024 * (t.val / 6) + r.val, by have := point_lt t; omega⟩ : Fin 14336) s k) := by
  obtain ⟨-, -, -, -, -, -, -, -, e0, e1, e2⟩ := block_facts t
  have ht := point_lt t
  have ee : ((cfg0.win 4).blk t).view.emb (ix3 k s r) = (ix3 k s (⟨1024 * (t.val / 6) + r.val, by omega⟩ : Fin 14336)) := by
    funext b
    match b with
    | ⟨0, _⟩ => exact Fin.ext (by show win0_4.index t (0 : Fin 3) * 12 + 1 * k.val = k.val; rw [e0]; omega)
    | ⟨1, _⟩ => exact Fin.ext (by show win0_4.index t (1 : Fin 3) * 16 + 1 * s.val = s.val; rw [e1]; omega)
    | ⟨2, _⟩ => exact Fin.ext (by show win0_4.index t (2 : Fin 3) * 1024 + 1 * r.val = 1024 * (t.val / 6) + r.val; rw [e2]; omega)
  show V m c main_v3 (((cfg0.win 4).blk t).view.emb (ix3 k s r)) = _
  rw [ee, V_sc]
  exact transpose_apply _ _ _ _ _ (fun b => match b with | ⟨0, _⟩ => rfl | ⟨1, _⟩ => rfl | ⟨2, _⟩ => rfl)

/-- The weights of the launch memory's arguments. -/
abbrev wAt (n : Fin 14336) (p : Fin 4096) : EReal :=
  weightAt (m ((c : Thread nD τ).loc main_arg1)) (m ((c : Thread nD τ).loc main_arg2)) (m ((c : Thread nD τ).loc main_arg3))
    (m ((c : Thread nD τ).loc main_arg4)) n p

/-- Row block `j` of the weight matrix. -/
def wBlock (j : Nat) (hj : j < 14) : Vec Ideal S1024x4096 .bf16 := fun y =>
  wAt m c ⟨1024 * j + (y 0).val, by have h : (y 0).val < 1024 := (y 0).isLt; omega⟩ ⟨(y 1).val, (y 1).isLt⟩

theorem wBlock_congr {j k : Nat} (h : j = k) (hj : j < 14) (hk : k < 14) : wBlock m c j hj = wBlock m c k hk := by
  subst h
  rfl

/-- The rows that a point's blocks dequantize to are row block `t / 6` of the weight matrix. -/
theorem scratchW_block (t : Fin cfg0.N) :
    scratchW (iblk m c 1 t) (iblk m c 2 t) (iblk m c 3 t) (iblk m c 4 t) = wBlock m c (t.val / 6) (by have := point_lt t; omega) := by
  funext y
  have ht := point_lt t
  obtain ⟨r, p, rfl⟩ : ∃ (r : Fin 1024) (p : Fin 4096), y = ix2 r p := ⟨y 0, y 1, by funext a; match a with | ⟨0, _⟩ => rfl | ⟨1, _⟩ => rfl⟩
  have eb : byteAt (R := 1024) (iblk m c 4 t) (superOf p) r
      = codeBytesOf (m ((c : Thread nD τ).loc main_arg4)) (⟨1024 * (t.val / 6) + r.val, by omega⟩ : Fin 14336) (superOf p) := by
    funext k
    unfold byteAt codeBytesOf
    by_cases hk : k < 12
    · rw [dif_pos hk, dif_pos hk]
      exact sc_block m c t ⟨k, hk⟩ (superOf p) r
    · rw [dif_neg hk, dif_neg hk]
  show weight (iblk m c 1 t (ix2 r (quantCol p))) (iblk m c 2 t (ix2 (superOf p) r)) (iblk m c 3 t (ix2 (superOf p) r))
      (byteAt (R := 1024) (iblk m c 4 t) (superOf p) r) p.val
    = weight _ _ _ _ p.val
  rw [eb, q_block, d_block, dmin_block]
  rfl

/-- After point `n` the weight scratch holds row block `n / 6` of the weight matrix. -/
theorem scratch_after : ∀ (n : Nat) (hn : n < cfg0.N),
    (outsAt0 m c n hn).2 = wBlock m c (n / 6) (by have := point_lt ⟨n, hn⟩; dsimp only at this; omega)
  | n, hn => by
    by_cases h0 : n % 6 = 0
    · rw [outsAt0_A m c ⟨n, hn⟩ h0]
      dsimp only
      rw [sout_A]
      exact scratchW_block m c ⟨n, hn⟩
    · match n, hn, h0 with
      | 0, _, h0 => exact absurd rfl h0
      | k + 1, hn, h0 =>
        rw [outsAt0_B m c ⟨k + 1, hn⟩ h0]
        dsimp only
        rw [sout_B]
        refine (scratch_after k (Nat.lt_of_succ_lt hn)).trans ?_
        exact wBlock_congr m c (by omega) _ _

/-- The block that point `t` computes. -/
theorem out_after (t : Fin cfg0.N) :
    (outsAt0 m c t.val t.isLt).1 = blockY (iblk m c 0 t) (wBlock m c (t.val / 6) (by have := point_lt t; omega)) := by
  by_cases h0 : t.val % 6 = 0
  · rw [outsAt0_A m c t h0]
    dsimp only
    rw [out_A]
    exact congrArg (blockY (iblk m c 0 t)) (scratchW_block m c t)
  · rw [outsAt0_B m c t h0]
    dsimp only
    rw [out_B]
    refine congrArg (blockY (iblk m c 0 t)) ?_
    refine (scratch_after m c (t.val - 1) _).trans ?_
    exact wBlock_congr m c (by omega) _ _

end Cert.KernelIdeal.Q4
-- ==== Proof.KernelResult.lean ====
/-
The kernel's result array, element by element.
-/
module

public import proofs.«01_k».proof.Proof.KernelValue

@[expose] public section

set_option maxRecDepth 16384

noncomputable section

namespace Cert.KernelIdeal.Q4

open Cert.KernelIdeal Cert.KernelIdeal.Gen Idealize.ShloMosaic Idealize.ShloMosaic.TcCoe Idealize.SL.Sem

variable (m : (ℓ : Loc nD τ sig) → Buf (Elt Ideal) ℓ) (c : Dev nD)

/-- The linear layer of the launch memory's arguments. -/
abbrev layerAt (a : Fin 6144) (n : Fin 14336) : EReal :=
  layer (m ((c : Thread nD τ).loc main_arg0)) (m ((c : Thread nD τ).loc main_arg1))
      (m ((c : Thread nD τ).loc main_arg2)) (m ((c : Thread nD τ).loc main_arg3)) (m ((c : Thread nD τ).loc main_arg4)) a n

/-- One element of the block that point `t` computes. -/
theorem block_apply (t : Fin cfg0.N) (r s : Fin 1024) (a : Fin 6144) (n : Fin 14336)
    (ha : a.val = 1024 * (t.val % 6) + r.val) (hn : n.val = 1024 * (t.val / 6) + s.val) :
    (outsAt0 m c t.val t.isLt).1 (ix2 r s) = layerAt m c a n := by
  have ht := point_lt t
  have ea : (⟨1024 * (t.val % 6) + r.val, by omega⟩ : Fin 6144) = a := Fin.ext ha.symm
  have en : (⟨1024 * (t.val / 6) + s.val, by omega⟩ : Fin 14336) = n := Fin.ext hn.symm
  rw [out_after m c t]
  refine (blockY_apply _ _ r s).trans ?_
  unfold layerAt layer
  refine Finset.sum_congr rfl fun p _ => ?_
  refine congrArg₂ (· * ·) ((x_block m c t r p).trans ?_) ?_
  · exact congrArg (fun z => m ((c : Thread nD τ).loc main_arg0) (ix3 z (0 : Fin 1) p)) ea
  · exact congrArg (fun z => wAt m c z p) en

/-- The result array's element is the element of the block that wrote it. -/
theorem result_block (i : S6144x14336.Idx) (h : Value.pt5Of i < cfg0.N) :
    Value.G5 (F := Ideal) m c i = (outsAt0 m c (Value.pt5Of i) h).1 (Value.loc5Of i) := by
  rw [Value.outsAt0_sweep m c _ h]
  exact dif_pos h

/-- The result array ends holding the linear layer of the arguments. -/
theorem result_apply (i : S6144x14336.Idx) :
    Value.G5 (F := Ideal) m c i = layerAt m c ⟨(i 0).val, (i 0).isLt⟩ ⟨(i 1).val, (i 1).isLt⟩ := by
  have h0 : (i 0).val < 6144 := (i 0).isLt
  have h1 : (i 1).val < 14336 := (i 1).isLt
  have hp : Value.pt5Of i = (i 0).val / 1024 + 6 * ((i 1).val / 1024) := by
    show 1 * ((i 0).val / 1024 - 0) + 6 * ((i 1).val / 1024 - 0) = _
    omega
  have hlt : Value.pt5Of i < cfg0.N := by
    rw [hp]
    exact lt_of_lt_of_eq (by omega) N_0.symm
  have hl : Value.loc5Of i = ix2 (⟨(i 0).val % 1024, by omega⟩ : Fin 1024) (⟨(i 1).val % 1024, by omega⟩ : Fin 1024) := by
    funext a
    match a with
    | ⟨0, _⟩ => rfl
    | ⟨1, _⟩ => rfl
  rw [result_block m c i hlt, hl]
  generalize Value.pt5Of i = u at hp hlt
  exact block_apply m c ⟨u, hlt⟩ _ _ _ _ (by show (i 0).val = 1024 * (u % 6) + (i 0).val % 1024; omega)
    (by show (i 1).val = 1024 * (u / 6) + (i 1).val % 1024; omega)

end Cert.KernelIdeal.Q4
-- ==== Proof.RefHalf.lean ====
/-
The reference's way of decoding a float16's word gives the number that the word denotes.
-/
module

public import proofs.«01_k».proof.Proof.Half
public import proofs.«01_k».proof.Proof.Gen.ReferenceIdeal.Read

@[expose] public section

set_option maxRecDepth 16384

noncomputable section

namespace Cert.ReferenceIdeal.Q4

open Cert.ReferenceIdeal Cert.ReferenceIdeal.Gen Cert.ReferenceIdeal.Read Idealize.ShloMosaic Idealize.ShloMosaic.TcCoe Idealize.SL.Sem
open Cert.KernelIdeal.Q4 (halfE halfF halfNum halfNumAbs field field0 pow24)

theorem pow25 : Ideal.ofBits .f32 0x33000000#32 = (((2 : ℝ) ^ (-25 : ℤ) : ℝ) : EReal) := by
  simp [Ideal.ofBits, Ideal.ieee, -EReal.coe_mul]; norm_num

theorem infWord : Ideal.ofBits .f32 0x7F800000#32 = ⊤ := by
  simp [Ideal.ofBits, Ideal.ieee]

theorem nanWord : Ideal.ofBits .f32 0x7FC00000#32 = ⊥ := by
  simp [Ideal.ofBits, Ideal.ieee]

/-- Comparing the words of two small numbers compares the numbers. -/
theorem eqWord (a n : Nat) (ha : a < 2 ^ 32) (hn : n < 2 ^ 32) :
    IntOp.cmpi .eq (BitVec.ofNat 32 a) (BitVec.ofNat 32 n) = 1 ↔ a = n := by
  have : IntOp.cmpi .eq (BitVec.ofNat 32 a) (BitVec.ofNat 32 n) = BitVec.ofBool (BitVec.ofNat 32 a == BitVec.ofNat 32 n) := rfl
  rw [this]
  by_cases hh : a = n
  · rw [hh]; simp
  · have hne : BitVec.ofNat 32 a ≠ BitVec.ofNat 32 n := by
      intro hc
      have := congrArg BitVec.toNat hc
      rw [BitVec.toNat_ofNat, BitVec.toNat_ofNat] at this
      omega
    rw [beq_false_of_ne hne]
    simp [hh]

theorem toInt_small (a : Nat) (ha : a < 2 ^ 31) : (BitVec.ofNat 32 a).toInt = (a : Int) := by
  rw [BitVec.toInt_eq_toNat_of_lt (by rw [BitVec.toNat_ofNat]; omega), BitVec.toNat_ofNat, Nat.mod_eq_of_lt (by omega)]

theorem oneShifted : ∀ e : Fin 31, (IntOp.shli .host 1#32 (BitVec.ofNat 32 e.val)).toInt = (2 : Int) ^ e.val := by
  decide +kernel

variable (x : (⟨S14336x16, .i16⟩ : BufTy).Contents (Elt Ideal)) (i : S14336x16.Idx)

theorem expField : val_main_v32 (F := Ideal) x i = BitVec.ofNat 32 (halfE (x i)) :=
  field (x i) 10 5 (by omega)

theorem fracField : val_main_v34 (F := Ideal) x i = BitVec.ofNat 32 (halfF (x i)) :=
  field0 (x i) 10 (by omega)

theorem signField : val_main_v59 (F := Ideal) x i = BitVec.ofNat 32 ((x i).toNat / 2 ^ 15 % 2 ^ 1) :=
  field (x i) 15 1 (by omega)

theorem magnitude : val_main_v55 (F := Ideal) x i = halfNumAbs (x i) := by
  have hE : halfE (x i) < 32 := Nat.mod_lt _ (by omega)
  have hF : halfF (x i) < 1024 := Nat.mod_lt _ (by omega)
  show (if IntOp.cmpi .eq (val_main_v32 (F := Ideal) x i) 0#32 = 1
      then (((val_main_v34 (F := Ideal) x i).toInt : ℝ) : EReal) * Ideal.ofBits .f32 0x33800000#32
      else if IntOp.cmpi .eq (val_main_v32 (F := Ideal) x i) 31#32 = 1
        then (if IntOp.cmpi .eq (val_main_v34 (F := Ideal) x i) 0#32 = 1 then Ideal.ofBits .f32 0x7F800000#32
          else Ideal.ofBits .f32 0x7FC00000#32)
        else ((((1024#32 + val_main_v34 (F := Ideal) x i).toInt : ℝ) : EReal)
          * (((IntOp.shli .host 1#32 (val_main_v32 (F := Ideal) x i)).toInt : ℝ) : EReal)) * Ideal.ofBits .f32 0x33000000#32) = _
  rw [expField, fracField]
  unfold halfNumAbs
  have c0 := eqWord (halfE (x i)) 0 (by omega) (by omega)
  have c31 := eqWord (halfE (x i)) 31 (by omega) (by omega)
  have f0 := eqWord (halfF (x i)) 0 (by omega) (by omega)
  by_cases h0 : halfE (x i) = 0
  · rw [if_pos (c0.2 h0), if_pos h0, pow24, toInt_small _ (by omega), ← EReal.coe_mul, Int.cast_natCast]
  · rw [if_neg (fun hc => h0 (c0.1 hc)), if_neg h0]
    by_cases h31 : halfE (x i) = 31
    · rw [if_pos (c31.2 h31), if_pos h31, infWord, nanWord]
      by_cases hf : halfF (x i) = 0
      · rw [if_pos (f0.2 hf), if_pos hf]
      · rw [if_neg (fun hc => hf (f0.1 hc)), if_neg hf]
    · rw [if_neg (fun hc => h31 (c31.1 hc)), if_neg h31, pow25]
      have e1 : (1024#32 + BitVec.ofNat 32 (halfF (x i))).toInt = ((1024 + halfF (x i) : Nat) : Int) := by
        rw [← toInt_small (1024 + halfF (x i)) (by omega), BitVec.ofNat_add]
      have e2 := oneShifted ⟨halfE (x i), by omega⟩
      rw [e1, e2, ← EReal.coe_mul, ← EReal.coe_mul]
      push_cast
      rfl

/-- The scales' decoded words. -/
theorem half_apply : val_main_v63 (F := Ideal) x i = halfNum (x i) := by
  show (if IntOp.cmpi .eq (val_main_v59 (F := Ideal) x i) 1#32 = 1 then -(val_main_v55 (F := Ideal) x i)
    else val_main_v55 (F := Ideal) x i) = _
  rw [magnitude, signField]
  unfold halfNum
  have h := eqWord ((x i).toNat / 2 ^ 15 % 2 ^ 1) 1 (by omega) (by omega)
  by_cases hs : (x i).toNat / 2 ^ 15 % 2 ^ 1 = 1
  · rw [if_pos hs]; exact if_pos (h.2 hs)
  · rw [if_neg hs]; exact if_neg (fun hc => hs (h.1 hc))

/-- The offsets' decoded words. -/
theorem half_apply' : val_main_v103 (F := Ideal) x i = halfNum (x i) :=
  half_apply x i

end Cert.ReferenceIdeal.Q4
-- ==== Proof.RefWeight.lean ====
/-
The reference's two halves of the weight matrix, element by element, are the weight matrix of `weightAt`.
-/
module

public import proofs.«01_k».proof.Proof.RefHalf
public import proofs.«01_k».proof.Proof.KernelValue

@[expose] public section

set_option maxRecDepth 16384

noncomputable section

namespace Cert.ReferenceIdeal.Q4

open Cert.ReferenceIdeal Cert.ReferenceIdeal.Gen Cert.ReferenceIdeal.Read Idealize.ShloMosaic Idealize.ShloMosaic.TcCoe Idealize.SL.Sem
open Cert.KernelIdeal.Q4 (halfNum nib quant codeWord codeNum weight quantCol superOf codeBytesOf weightAt)

/-- Shifting a byte right by four leaves four bits. -/
theorem highHalf (b : BitVec 8) : (b.setWidth 32).sshiftRight 4 = (b.setWidth 32).sshiftRight 4 &&& 15#32 := by
  have h : ∀ n : Fin 256, ((BitVec.ofFin (w := 8) n).setWidth 32).sshiftRight 4 = ((BitVec.ofFin (w := 8) n).setWidth 32).sshiftRight 4 &&& 15#32 := by
    decide +kernel
  exact h b.toFin

theorem lowNibble (b : BitVec 8) : (b.setWidth 32 &&& 15#32).toInt = ((nib b 0).toNat : Int) := by
  have h : ∀ n : Fin 256, ((BitVec.ofFin (w := 8) n).setWidth 32 &&& 15#32).toInt = ((nib (BitVec.ofFin (w := 8) n) 0).toNat : Int) := by
    decide +kernel
  exact h b.toFin

theorem highNibble (b : BitVec 8) : ((b.setWidth 32).sshiftRight 4).toInt = ((nib b 1).toNat : Int) := by
  have h : ∀ n : Fin 256, (((BitVec.ofFin (w := 8) n).setWidth 32).sshiftRight 4).toInt = ((nib (BitVec.ofFin (w := 8) n) 1).toNat : Int) := by
    decide +kernel
  exact h b.toFin

variable (x1 : (⟨S14336x2048, .i8⟩ : BufTy).Contents (Elt Ideal)) (x2 x3 : (⟨S14336x16, .i16⟩ : BufTy).Contents (Elt Ideal))
  (x4 : (⟨S14336x16x12, .i8⟩ : BufTy).Contents (Elt Ideal))

theorem codeBytes_of (n : Fin 14336) (s : Fin 16) (k : Nat) (h : k < 12) : codeBytesOf x4 n s k = x4 (ix3 n s ⟨k, h⟩) :=
  dif_pos h

/-- The low four codes of the scales. -/
theorem scaleCode_low (n : Fin 14336) (s : Fin 16) (k : Fin 4) :
    val_main_v4 (F := Ideal) x4 (ix3 n s k) = codeWord 0 0 (codeBytesOf x4 n s) k.val := by
  rw [codeWord, if_pos k.isLt, codeBytes_of x4 n s _ (by omega), val_main_v4_apply, val_main_v2_apply, val_main_v1_apply]
  have e : idx_main_v2 (ix3 n s k) = ix3 n s (⟨0 + k.val, by omega⟩ : Fin 12) := by
    funext a
    match a with
    | ⟨0, _⟩ => rfl
    | ⟨1, _⟩ => rfl
    | ⟨2, _⟩ => exact Fin.ext (Nat.zero_add _).symm
  rw [e]
  rfl

/-- The low four codes of the offsets. -/
theorem offsetCode_low (n : Fin 14336) (s : Fin 16) (k : Fin 4) :
    val_main_v7 (F := Ideal) x4 (ix3 n s k) = codeWord 4 4 (codeBytesOf x4 n s) k.val := by
  rw [codeWord, if_pos k.isLt, codeBytes_of x4 n s _ (by omega), val_main_v7_apply, val_main_v5_apply, val_main_v1_apply]
  have e : idx_main_v5 (ix3 n s k) = ix3 n s (⟨4 + k.val, by omega⟩ : Fin 12) := by
    funext a
    match a with
    | ⟨0, _⟩ => rfl
    | ⟨1, _⟩ => rfl
    | ⟨2, _⟩ => rfl
  rw [e]
  rfl

/-- The high four codes of the scales. -/
theorem scaleCode_high (n : Fin 14336) (s : Fin 16) (k : Fin 4) :
    val_main_v16 (F := Ideal) x4 (ix3 n s k) = codeWord 0 0 (codeBytesOf x4 n s) (4 + k.val) := by
  rw [codeWord, if_neg (by omega), codeBytes_of x4 n s (4 + (4 + k.val)) (by omega), codeBytes_of x4 n s (0 + (4 + k.val) - 4) (by omega),
    BitVec.sshiftRight_zero]
  have e8 : idx_main_v8 (ix3 n s k) = ix3 n s (⟨4 + (4 + k.val), by omega⟩ : Fin 12) := by
    funext a
    match a with
    | ⟨0, _⟩ => rfl
    | ⟨1, _⟩ => rfl
    | ⟨2, _⟩ => exact Fin.ext (by show 8 + k.val = 4 + (4 + k.val); omega)
  have e11 : idx_main_v11 (ix3 n s k) = ix3 n s (⟨0 + (4 + k.val) - 4, by omega⟩ : Fin 12) := by
    funext a
    match a with
    | ⟨0, _⟩ => rfl
    | ⟨1, _⟩ => rfl
    | ⟨2, _⟩ => exact Fin.ext (by show k.val = 0 + (4 + k.val) - 4; omega)
  rw [← e8, ← e11]
  rw [val_main_v16_apply, val_main_v10_apply, val_main_v15_apply, val_main_v13_apply, val_main_v8_apply, val_main_v11_apply,
    val_main_v1_apply, val_main_v1_apply]
  rfl

/-- The high four codes of the offsets. -/
theorem offsetCode_high (n : Fin 14336) (s : Fin 16) (k : Fin 4) :
    val_main_v25 (F := Ideal) x4 (ix3 n s k) = codeWord 4 4 (codeBytesOf x4 n s) (4 + k.val) := by
  rw [codeWord, if_neg (by omega), codeBytes_of x4 n s (4 + (4 + k.val)) (by omega), codeBytes_of x4 n s (4 + (4 + k.val) - 4) (by omega),
    ← highHalf]
  have e17 : idx_main_v17 (ix3 n s k) = ix3 n s (⟨4 + (4 + k.val), by omega⟩ : Fin 12) := by
    funext a
    match a with
    | ⟨0, _⟩ => rfl
    | ⟨1, _⟩ => rfl
    | ⟨2, _⟩ => exact Fin.ext (by show 8 + k.val = 4 + (4 + k.val); omega)
  have e20 : idx_main_v20 (ix3 n s k) = ix3 n s (⟨4 + (4 + k.val) - 4, by omega⟩ : Fin 12) := by
    funext a
    match a with
    | ⟨0, _⟩ => rfl
    | ⟨1, _⟩ => rfl
    | ⟨2, _⟩ => exact Fin.ext (by show 4 + k.val = 4 + (4 + k.val) - 4; omega)
  rw [← e17, ← e20]
  rw [val_main_v25_apply, val_main_v19_apply, val_main_v24_apply, val_main_v22_apply, val_main_v17_apply, val_main_v20_apply,
    val_main_v1_apply, val_main_v1_apply]
  rfl

/-- Eight codes from two groups of four. -/
theorem eight_of_four (lo hi : IVec S14336x16x4 32) (h : Shape.Concatenates [S14336x16x4, S14336x16x4] S14336x16x8 2)
    (f : Nat → BitVec 32) (n : Fin 14336) (s : Fin 16) (hlo : ∀ k : Fin 4, lo (ix3 n s k) = f k.val)
    (hhi : ∀ k : Fin 4, hi (ix3 n s k) = f (4 + k.val)) (c : Fin 8) :
    concatenate S14336x16x8 2 [⟨S14336x16x4, lo⟩, ⟨S14336x16x4, hi⟩] h (ix3 n s c) = f c.val := by
  by_cases hc : c.val < 4
  · rw [concatenate_pair_apply_left (t := S14336x16x8) (s₁ := S14336x16x4) (s₂ := S14336x16x4) 2 lo hi h (ix3 n s c) rfl
      (ix3 n s (⟨c.val, hc⟩ : Fin 4)) (fun b => match b with | ⟨0, _⟩ => rfl | ⟨1, _⟩ => rfl | ⟨2, _⟩ => rfl)]
    exact hlo ⟨c.val, hc⟩
  · have hk : c.val - 4 < 4 := by omega
    rw [concatenate_pair_apply_right (t := S14336x16x8) (s₁ := S14336x16x4) (s₂ := S14336x16x4) 2 lo hi h (ix3 n s c) rfl rfl
      (ix3 n s (⟨c.val - 4, hk⟩ : Fin 4))
      (fun b hb => match b, hb with | ⟨0, _⟩, _ => rfl | ⟨1, _⟩, _ => rfl | ⟨2, _⟩, hb => absurd rfl hb)
      (by show c.val - 4 + 4 = c.val; omega)]
    rw [hhi ⟨c.val - 4, hk⟩]
    congr 1
    show 4 + (c.val - 4) = c.val
    omega

/-- The codes of the scales. -/
theorem scaleCode (n : Fin 14336) (s : Fin 16) (c : Fin 8) :
    val_main_v26 (F := Ideal) x4 (ix3 n s c) = codeWord 0 0 (codeBytesOf x4 n s) c.val :=
  eight_of_four _ _ _ _ n s (scaleCode_low x4 n s) (scaleCode_high x4 n s) c

/-- The codes of the offsets. -/
theorem offsetCode (n : Fin 14336) (s : Fin 16) (c : Fin 8) :
    val_main_v27 (F := Ideal) x4 (ix3 n s c) = codeWord 4 4 (codeBytesOf x4 n s) c.val :=
  eight_of_four _ _ _ _ n s (offsetCode_low x4 n s) (offsetCode_high x4 n s) c

/-- The scale of a sub-block. -/
theorem scale_apply (n : Fin 14336) (s : Fin 16) (c : Fin 8) :
    val_main_v67 (F := Ideal) x2 x4 (ix3 n s c) = halfNum (x2 (ix2 n s)) * codeNum 0 0 (codeBytesOf x4 n s) c.val := by
  rw [val_main_v67_apply, val_main_v66_apply, val_main_v65_apply, val_main_v64_apply, half_apply, scaleCode]
  have e : idx_main_v64 (idx_main_v66 (ix3 n s c)) = ix2 n s := by
    funext a
    match a with
    | ⟨0, _⟩ => rfl
    | ⟨1, _⟩ => rfl
  rw [e]
  rfl

/-- The offset of a sub-block. -/
theorem offset_apply (n : Fin 14336) (s : Fin 16) (c : Fin 8) :
    val_main_v107 (F := Ideal) x3 x4 (ix3 n s c) = halfNum (x3 (ix2 n s)) * codeNum 4 4 (codeBytesOf x4 n s) c.val := by
  rw [val_main_v107_apply, val_main_v106_apply, val_main_v105_apply, val_main_v104_apply, half_apply', offsetCode]
  have e : idx_main_v104 (idx_main_v106 (ix3 n s c)) = ix2 n s := by
    funext a
    match a with
    | ⟨0, _⟩ => rfl
    | ⟨1, _⟩ => rfl
  rw [e]
  rfl

/-- The column of group `g`, half `h`, place `j`. -/
def col (g : Fin 64) (h : Fin 2) (j : Fin 32) : Fin 4096 := ⟨64 * g.val + 32 * h.val + j.val, by omega⟩

theorem quantCol_col (g : Fin 64) (h : Fin 2) (j : Fin 32) : (quantCol (col g h j)).val = 32 * g.val + j.val := by
  show 32 * ((64 * g.val + 32 * h.val + j.val) / 64) + (64 * g.val + 32 * h.val + j.val) % 32 = _
  omega

theorem superOf_col (g : Fin 64) (h : Fin 2) (j : Fin 32) : (superOf (col g h j)).val = g.val / 4 := by
  show (64 * g.val + 32 * h.val + j.val) / 256 = _
  omega

/-- The sub-block that a group and half name. -/
theorem subBlock (n : Fin 14336) (g : Fin 64) (h : Fin 2) (j : Fin 32) :
    idx_main_v108 (ix3 n g h) = ix3 n (superOf (col g h j)) (⟨(col g h j).val / 32 % 8, by omega⟩ : Fin 8) := by
  funext a
  match a with
  | ⟨0, _⟩ => exact Fin.ext (by show ((n.val * 64 + g.val) * 2 + h.val) / 128 = n.val; omega)
  | ⟨1, _⟩ => exact Fin.ext (by show ((n.val * 64 + g.val) * 2 + h.val) / 8 % 16 = (64 * g.val + 32 * h.val + j.val) / 256; omega)
  | ⟨2, _⟩ => exact Fin.ext (by show ((n.val * 64 + g.val) * 2 + h.val) % 8 = (64 * g.val + 32 * h.val + j.val) / 32 % 8; omega)

/-- The byte that a group and place name. -/
theorem byte_apply (n : Fin 14336) (g : Fin 64) (h : Fin 2) (j : Fin 32) :
    val_main_v110 (F := Ideal) x1 (ix3 n g j) = (x1 (ix2 n (quantCol (col g h j)))).setWidth 32 := by
  rw [val_main_v110_apply, val_main_v0_apply]
  have e : idx_main_v110 (ix3 n g j) = ix2 n (quantCol (col g h j)) := by
    funext a
    match a with
    | ⟨0, _⟩ => exact Fin.ext (by show ((n.val * 64 + g.val) * 32 + j.val) / 2048 = n.val; omega)
    | ⟨1, _⟩ => exact Fin.ext (by rw [show ((ix2 n (quantCol (col g h j))) ⟨1, by decide⟩).val = (quantCol (col g h j)).val from rfl, quantCol_col]; show ((n.val * 64 + g.val) * 32 + j.val) % 2048 = _; omega)
  rw [e]

/-- The scale that a group and half name. -/
theorem groupScale (n : Fin 14336) (g : Fin 64) (h : Fin 2) (j : Fin 32) :
    val_main_v108 (F := Ideal) x2 x4 (ix3 n g h) = halfNum (x2 (ix2 n (superOf (col g h j))))
      * codeNum 0 0 (codeBytesOf x4 n (superOf (col g h j))) ((col g h j).val / 32 % 8) := by
  rw [val_main_v108_apply, subBlock n g h j, scale_apply]

/-- The offset that a group and half name. -/
theorem groupOffset (n : Fin 14336) (g : Fin 64) (h : Fin 2) (j : Fin 32) :
    val_main_v109 (F := Ideal) x3 x4 (ix3 n g h) = halfNum (x3 (ix2 n (superOf (col g h j))))
      * codeNum 4 4 (codeBytesOf x4 n (superOf (col g h j))) ((col g h j).val / 32 % 8) := by
  rw [val_main_v109_apply, show idx_main_v109 (ix3 n g h) = idx_main_v108 (ix3 n g h) from rfl, subBlock n g h j, offset_apply]

/-- The weights of the low nibbles. -/
theorem weight_low (n : Fin 14336) (g : Fin 64) (j : Fin 32) :
    val_main_v123 (F := Ideal) x1 x2 x3 x4 (ix3 n g j) = weightAt x1 x2 x3 x4 n (col g 0 j) := by
  have hp : (col g 0 j).val / 32 % 2 = 0 := by show (64 * g.val + 32 * 0 + j.val) / 32 % 2 = 0; omega
  have q : val_main_v113 (F := Ideal) x1 (ix3 n g j) = quant (x1 (ix2 n (quantCol (col g 0 j)))) 0 := by
    show (((val_main_v110 (F := Ideal) x1 (ix3 n g j) &&& 15#32).toInt : ℝ) : EReal) = _
    rw [byte_apply x1 n g 0 j, lowNibble]
    rfl
  have s : val_main_v118 (F := Ideal) x2 x4 (ix3 n g j) = val_main_v108 (F := Ideal) x2 x4 (ix3 n g (0 : Fin 2)) := by
    rw [val_main_v118_apply, val_main_v117_apply]
    congr 1
    funext a
    match a with
    | ⟨0, _⟩ => rfl
    | ⟨1, _⟩ => rfl
    | ⟨2, _⟩ => rfl
  have o : val_main_v121 (F := Ideal) x3 x4 (ix3 n g j) = val_main_v109 (F := Ideal) x3 x4 (ix3 n g (0 : Fin 2)) := by
    rw [val_main_v121_apply, val_main_v120_apply]
    congr 1
    funext a
    match a with
    | ⟨0, _⟩ => rfl
    | ⟨1, _⟩ => rfl
    | ⟨2, _⟩ => rfl
  rw [val_main_v123_apply, val_main_v122_apply, val_main_v119_apply, q, s, o, groupScale x2 x4 n g 0 j, groupOffset x3 x4 n g 0 j,
    weightAt, weight, hp]
  rfl

/-- The weights of the high nibbles. -/
theorem weight_high (n : Fin 14336) (g : Fin 64) (j : Fin 32) :
    val_main_v130 (F := Ideal) x1 x2 x3 x4 (ix3 n g j) = weightAt x1 x2 x3 x4 n (col g 1 j) := by
  have hp : (col g 1 j).val / 32 % 2 = 1 := by show (64 * g.val + 32 * 1 + j.val) / 32 % 2 = 1; omega
  have q : val_main_v116 (F := Ideal) x1 (ix3 n g j) = quant (x1 (ix2 n (quantCol (col g 1 j)))) 1 := by
    show ((((val_main_v110 (F := Ideal) x1 (ix3 n g j)).sshiftRight 4).toInt : ℝ) : EReal) = _
    rw [byte_apply x1 n g 1 j, highNibble]
    rfl
  have s : val_main_v125 (F := Ideal) x2 x4 (ix3 n g j) = val_main_v108 (F := Ideal) x2 x4 (ix3 n g (1 : Fin 2)) := by
    rw [val_main_v125_apply, val_main_v124_apply]
    congr 1
    funext a
    match a with
    | ⟨0, _⟩ => rfl
    | ⟨1, _⟩ => rfl
    | ⟨2, _⟩ => rfl
  have o : val_main_v128 (F := Ideal) x3 x4 (ix3 n g j) = val_main_v109 (F := Ideal) x3 x4 (ix3 n g (1 : Fin 2)) := by
    rw [val_main_v128_apply, val_main_v127_apply]
    congr 1
    funext a
    match a with
    | ⟨0, _⟩ => rfl
    | ⟨1, _⟩ => rfl
    | ⟨2, _⟩ => rfl
  rw [val_main_v130_apply, val_main_v129_apply, val_main_v126_apply, q, s, o, groupScale x2 x4 n g 1 j, groupOffset x3 x4 n g 1 j,
    weightAt, weight, hp]
  rfl

end Cert.ReferenceIdeal.Q4
-- ==== Proof.RefValue.lean ====
/-
What the reference's result holds: the linear layer of its arguments.
-/
module

public import proofs.«01_k».proof.Proof.RefWeight
public import Idealize.ShloMosaic.Lib.TwoAxisContraction

@[expose] public section

set_option maxRecDepth 16384

noncomputable section

namespace Cert.ReferenceIdeal.Q4

open Cert.ReferenceIdeal Cert.ReferenceIdeal.Gen Cert.ReferenceIdeal.Read Idealize.ShloMosaic Idealize.ShloMosaic.TcCoe Idealize.SL.Sem
open Cert.KernelIdeal.Q4 (weightAt layer)

/-- A sum over all columns is the sum over the groups of the low halves plus that of the high halves. -/
theorem sum_columns (f : Fin 4096 → EReal) :
    ∑ p, f p = (∑ g : Fin 64, ∑ j : Fin 32, f (col g 0 j)) + ∑ g : Fin 64, ∑ j : Fin 32, f (col g 1 j) := by
  have e1 : ∑ p, f p = ∑ g : Fin 64, ∑ k : Fin (32 + 32), f ⟨64 * g.val + k.val, by omega⟩ := by
    rw [← Equiv.sum_comp (finProdFinEquiv (m := 64) (n := 64)) f, Fintype.sum_prod_type]
    refine Finset.sum_congr rfl fun g _ => Finset.sum_congr rfl fun k _ => congrArg f (Fin.ext ?_)
    show k.val + 64 * g.val = 64 * g.val + k.val
    omega
  rw [e1, ← Finset.sum_add_distrib]
  refine Finset.sum_congr rfl fun g _ => ?_
  rw [Fin.sum_univ_add]
  refine congrArg₂ (· + ·) ?_ ?_
  · exact Finset.sum_congr rfl fun j _ => congrArg f (Fin.ext (by show 64 * g.val + j.val = 64 * g.val + 32 * 0 + j.val; omega))
  · exact Finset.sum_congr rfl fun j _ => congrArg f (Fin.ext (by show 64 * g.val + (32 + j.val) = 64 * g.val + 32 * 1 + j.val; omega))

/-- The product over groups and places, as a double sum. -/
theorem dot_apply (l : Vec Ideal S6144x1x64x32 .bf16) (r : Vec Ideal S14336x64x32 .bf16) (a : Fin 6144) (n : Fin 14336) :
    Host.dotGeneral (F := Ideal) (φ₁ := .bf16) (φ₂ := .bf16) dot_S6144x1x64x32_S14336x64x32_S6144x1x14336_23_12_01_0_n_n none l r (ix3 a (0 : Fin 1) n)
      = ∑ g : Fin 64, ∑ j : Fin 32, l (ix4 a (0 : Fin 1) g j) * r (ix3 n g j) := by
  simp only [Host.dotGeneral]
  rw [Ideal.dotGeneral_apply]
  rw [ValueIdx.sum_contr2 dot_S6144x1x64x32_S14336x64x32_S6144x1x14336_23_12_01_0_n_n 64 32 rfl rfl rfl]
  refine Finset.sum_congr rfl fun g _ => Finset.sum_congr rfl fun j _ => ?_
  refine congrArg₂ (· * ·) (congrArg l ?_) (congrArg r ?_)
  · funext b
    match b with
    | ⟨0, _⟩ => rfl
    | ⟨1, _⟩ => rfl
    | ⟨2, _⟩ => rfl
    | ⟨3, _⟩ => rfl
  · funext b
    match b with
    | ⟨0, _⟩ => rfl
    | ⟨1, _⟩ => rfl
    | ⟨2, _⟩ => rfl

variable (x0 : (⟨S6144x1x4096, .bf16⟩ : BufTy).Contents (Elt Ideal))
  (x1 : (⟨S14336x2048, .i8⟩ : BufTy).Contents (Elt Ideal)) (x2 x3 : (⟨S14336x16, .i16⟩ : BufTy).Contents (Elt Ideal))
  (x4 : (⟨S14336x16x12, .i8⟩ : BufTy).Contents (Elt Ideal))

/-- The activations that meet the low nibbles. -/
theorem x_low (a : Fin 6144) (g : Fin 64) (j : Fin 32) :
    val_main_v133 (F := Ideal) x0 (ix4 a (0 : Fin 1) g j) = x0 (ix3 a (0 : Fin 1) (col g 0 j)) := by
  rw [val_main_v133_apply, val_main_v132_apply, val_main_v131_apply]
  congr 1
  have e0 : (((a.val * 1 + 0) * 64 + g.val) * 32 + j.val) / 2048 = a.val := by omega
  have e2 : (((a.val * 1 + 0) * 64 + g.val) * 32 + j.val) / 32 % 64 = g.val := by omega
  have e4 : (((a.val * 1 + 0) * 64 + g.val) * 32 + j.val) % 32 = j.val := by omega
  funext b
  match b with
  | ⟨0, _⟩ =>
    refine Fin.ext ?_
    show (((((((a.val * 1 + 0) * 64 + g.val) * 32 + j.val) / 2048 * 1 + 0) * 64 + (((a.val * 1 + 0) * 64 + g.val) * 32 + j.val) / 32 % 64) * 2 + 0) * 32
      + (((a.val * 1 + 0) * 64 + g.val) * 32 + j.val) % 32) / 4096 = a.val
    rw [e0, e2, e4]; omega
  | ⟨1, _⟩ => rfl
  | ⟨2, _⟩ =>
    refine Fin.ext ?_
    show (((((((a.val * 1 + 0) * 64 + g.val) * 32 + j.val) / 2048 * 1 + 0) * 64 + (((a.val * 1 + 0) * 64 + g.val) * 32 + j.val) / 32 % 64) * 2 + 0) * 32
      + (((a.val * 1 + 0) * 64 + g.val) * 32 + j.val) % 32) % 4096 = 64 * g.val + 32 * 0 + j.val
    rw [e0, e2, e4]; omega

/-- The activations that meet the high nibbles. -/
theorem x_high (a : Fin 6144) (g : Fin 64) (j : Fin 32) :
    val_main_v136 (F := Ideal) x0 (ix4 a (0 : Fin 1) g j) = x0 (ix3 a (0 : Fin 1) (col g 1 j)) := by
  rw [val_main_v136_apply, val_main_v135_apply, val_main_v131_apply]
  congr 1
  have e0 : (((a.val * 1 + 0) * 64 + g.val) * 32 + j.val) / 2048 = a.val := by omega
  have e2 : (((a.val * 1 + 0) * 64 + g.val) * 32 + j.val) / 32 % 64 = g.val := by omega
  have e4 : (((a.val * 1 + 0) * 64 + g.val) * 32 + j.val) % 32 = j.val := by omega
  funext b
  match b with
  | ⟨0, _⟩ =>
    refine Fin.ext ?_
    show (((((((a.val * 1 + 0) * 64 + g.val) * 32 + j.val) / 2048 * 1 + 0) * 64 + (((a.val * 1 + 0) * 64 + g.val) * 32 + j.val) / 32 % 64) * 2 + (1 + 0)) * 32
      + (((a.val * 1 + 0) * 64 + g.val) * 32 + j.val) % 32) / 4096 = a.val
    rw [e0, e2, e4]; omega
  | ⟨1, _⟩ => rfl
  | ⟨2, _⟩ =>
    refine Fin.ext ?_
    show (((((((a.val * 1 + 0) * 64 + g.val) * 32 + j.val) / 2048 * 1 + 0) * 64 + (((a.val * 1 + 0) * 64 + g.val) * 32 + j.val) / 32 % 64) * 2 + (1 + 0)) * 32
      + (((a.val * 1 + 0) * 64 + g.val) * 32 + j.val) % 32) % 4096 = 64 * g.val + 32 * 1 + j.val
    rw [e0, e2, e4]; omega

/-- The reference's result is the linear layer of its arguments. -/
theorem result_apply (i : S6144x14336.Idx) :
    val_main_v140 (F := Ideal) x0 x1 x2 x3 x4 i = layer x0 x1 x2 x3 x4 ⟨(i 0).val, (i 0).isLt⟩ ⟨(i 1).val, (i 1).isLt⟩ := by
  have h0 : (i 0).val < 6144 := (i 0).isLt
  have h1 : (i 1).val < 14336 := (i 1).isLt
  have e : idx_main_v140 i = ix3 (⟨(i 0).val, h0⟩ : Fin 6144) (0 : Fin 1) (⟨(i 1).val, h1⟩ : Fin 14336) := by
    funext a
    match a with
    | ⟨0, _⟩ => exact Fin.ext (by show ((i 0).val * 14336 + (i 1).val) / 14336 = (i 0).val; omega)
    | ⟨1, _⟩ => rfl
    | ⟨2, _⟩ => exact Fin.ext (by show ((i 0).val * 14336 + (i 1).val) % 14336 = (i 1).val; omega)
  rw [val_main_v140_apply, e, val_main_v139_apply, val_main_v138_apply]
  unfold layer
  rw [sum_columns]
  refine congrArg₂ (· + ·) ?_ ?_
  · unfold val_main_v134
    refine (dot_apply _ _ _ _).trans ?_
    exact Finset.sum_congr rfl fun g _ => Finset.sum_congr rfl fun j _ => congrArg₂ (· * ·) (x_low x0 _ g j) (weight_low x1 x2 x3 x4 _ g j)
  · unfold val_main_v137
    refine (dot_apply _ _ _ _).trans ?_
    exact Finset.sum_congr rfl fun g _ => Finset.sum_congr rfl fun j _ => congrArg₂ (· * ·) (x_high x0 _ g j) (weight_high x1 x2 x3 x4 _ g j)

end Cert.ReferenceIdeal.Q4
-- ==== Proof.lean ====
/-
The proof of `Cert.Claim`: the three programs leave their arguments as they were, the ideal program is the kernel, and
kernel and reference compute the same linear layer over the extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelResult
public import proofs.«01_k».proof.Proof.RefValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference ends with its arguments as they were; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From arguments that agree, kernel and reference end with the same result: the linear layer of these arguments. -/
theorem algebraic : Cert.algebraic_KernelIdeal_ReferenceIdeal := by
  intro m ρ m' ρ' _ hagree
  refine ⟨fun c => Cert.KernelIdeal.Value.G5 (F := Ideal) m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v140_eq (F := Ideal) (StableHlo.launchContents m' c)).trans ?_
  obtain ⟨a0, a1, a2, a3, a4⟩ := hagree c
  funext i
  refine (Cert.ReferenceIdeal.Q4.result_apply _ _ _ _ _ i).trans ?_
  refine Eq.trans ?_ (Cert.KernelIdeal.Q4.result_apply m c i).symm
  unfold Cert.KernelIdeal.Q4.layerAt
  rw [← a0, ← a1, ← a2, ← a3, ← a4]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
